-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 1024, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 1024, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S_ 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x4x64 .bf16 := Host.absf main_arg2
  let main_cst_2 : FVec F S_ .bf16 := constant S_ .bf16 0x7F80#16
  let main_v10 : FVec F S2x128x4x64 .bf16 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_finite_inputs_ReferenceIdeal.lean ====
abbrev S2x1024x512 : Shape := ⟨3, ![2, 1024, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x1024x4x64 : S_.BroadcastsInDim S2x1024x4x64 (![] : Fin 0 → Fin S2x1024x4x64.rank)
  reducesTo_S2x1024x4x64_S_d0_1_2_3 : S2x1024x4x64.ReducesTo [0, 1, 2, 3] S_

variable [Facts]

def fn {F : FTy → Type} [FloatOps F] (main_arg0 : FVec F S2x1024x512 .bf16) (main_arg1 : FVec F S512x256 .bf16) (main_arg2 : FVec F S2x1024x4x64 .bf16) (main_arg3 : FVec F S2x1024x4x64 .bf16) (main_arg4 : FVec F S256x512 .bf16) : IVec S_ 1 :=
  let main_v0 : FVec F S2x1024x512 .bf16 := Host.absf main_arg0
  let main_cst : FVec F S_ .bf16 := constant S_ .bf16 0x7F80#16
  let main_v1 : FVec F S2x1024x512 .bf16 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x1024x4x64 .bf16 := Host.absf main_arg2
  let main_cst_2 : FVec F S_ .bf16 := constant S_ .bf16 0x7F80#16
  let main_v10 : FVec F S2x1024x4x64 .bf16 := broadcastInDim S2x1024x4x64 ![] bcast_S_S2x1024x4x64 main_cst_2
  let main_v11 : IVec S2x1024x4x64 1 := cmpf .olt main_v9 main_v10
  let main_c_3 : IVec S_ 1 := constantI S_ 1 1#1
  let main_v12 : IVec S_ 1 := (fun x v => Host.reduce IntOp.andi x v reducesTo_S2x1024x4x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S4x2x2x128x256 : Shape := ⟨5, ![4, 2, 2, 128, 256]⟩
abbrev S6 : Shape := ⟨1, ![6]⟩
abbrev S_ : Shape := ⟨0, ![]⟩
abbrev S1x128x4x64 : Shape := ⟨4, ![1, 128, 4, 64]⟩
abbrev S128x4x64 : Shape := ⟨3, ![128, 4, 64]⟩
abbrev S128x256 : Shape := ⟨2, ![128, 256]⟩
abbrev S1x1x1x128x256 : Shape := ⟨5, ![1, 1, 1, 128, 256]⟩
abbrev S1 : Shape := ⟨1, ![1]⟩
abbrev S1x1x2x128x256 : Shape := ⟨5, ![1, 1, 2, 128, 256]⟩
abbrev S2x128x256 : Shape := ⟨3, ![2, 128, 256]⟩
abbrev S128x128 : Shape := ⟨2, ![128, 128]⟩
abbrev S1x128x512 : Shape := ⟨3, ![1, 128, 512]⟩
abbrev S128x512 : Shape := ⟨2, ![128, 512]⟩
abbrev S128x64 : Shape := ⟨2, ![128, 64]⟩
abbrev S128 : Shape := ⟨1, ![128]⟩
abbrev S128x1 : Shape := ⟨2, ![128, 1]⟩

abbrev nBuf : Space → Nat
  | .hbm => 6
  | .vmem => 7
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S4x2x2x128x256, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let c4_i32 : BitVec 32 := 4#32
  let v4 : BitVec 32 := Scalar.addi v2 c4_i32
  let c4_i32_0 : BitVec 32 := 4#32
  let v5 : BitVec 1 := Scalar.cmpi .slt v2 c4_i32_0
  let c2_i32_1 : BitVec 32 := 2#32
  let v6 : BitVec 32 := Scalar.subi v2 c2_i32_1
  let c6_i32 : BitVec 32 := 6#32
  let v7 : BitVec 1 := Scalar.cmpi .slt v2 c6_i32
  let c2_i32_2 : BitVec 32 := 2#32
  let v8 : BitVec 32 := Scalar.addi v2 c2_i32_2
  let c4_i32_3 : BitVec 32 := 4#32
  let v9 : BitVec 32 := Scalar.subi v2 c4_i32_3
  let v10 : BitVec 32 := Scalar.select v7 v8 v9
  let v11 : BitVec 32 := Scalar.select v5 v6 v10
  let v12 : BitVec 32 := Scalar.select v3 v4 v11
  let c1_i32_19 : BitVec 32 := 1#32
  let v34 : BitVec 32 := Scalar.muli v12 c1_i32_19
  let v35 : BitVec 32 := Scalar.addi c0_i32 v34
  v35.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_11 : BitVec 32 := 2#32
  let v23 : BitVec 1 := Scalar.cmpi .slt v2 c2_i32_11
  let c6_i32_12 : BitVec 32 := 6#32
  let v24 : BitVec 32 := Scalar.addi v2 c6_i32_12
  let c4_i32_13 : BitVec 32 := 4#32
  let v25 : BitVec 1 := Scalar.cmpi .slt v2 c4_i32_13
  let c2_i32_14 : BitVec 32 := 2#32
  let v26 : BitVec 32 := Scalar.addi v2 c2_i32_14
  let c6_i32_15 : BitVec 32 := 6#32
  let v27 : BitVec 1 := Scalar.cmpi .slt v2 c6_i32_15
  let c2_i32_16 : BitVec 32 := 2#32
  let v28 : BitVec 32 := Scalar.subi v2 c2_i32_16
  let c6_i32_17 : BitVec 32 := 6#32
  let v29 : BitVec 32 := Scalar.subi v2 c6_i32_17
  let v30 : BitVec 32 := Scalar.select v27 v28 v29
  let v31 : BitVec 32 := Scalar.select v25 v26 v30
  let v32 : BitVec 32 := Scalar.select v23 v24 v31
  let c1_i32_21 : BitVec 32 := 1#32
  let v36 : BitVec 32 := Scalar.muli v32 c1_i32_21
  let v37 : BitVec 32 := Scalar.addi c0_i32_22 v36
  v37.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4 : BitVec 32 := 2#32
  let v13 : BitVec 1 := Scalar.cmpi .slt v2 c2_i32_4
  let c2_i32_5 : BitVec 32 := 2#32
  let v14 : BitVec 32 := Scalar.addi v2 c2_i32_5
  let c4_i32_6 : BitVec 32 := 4#32
  let v15 : BitVec 1 := Scalar.cmpi .slt v2 c4_i32_6
  let c4_i32_7 : BitVec 32 := 4#32
  let v16 : BitVec 32 := Scalar.addi v2 c4_i32_7
  let c6_i32_8 : BitVec 32 := 6#32
  let v17 : BitVec 1 := Scalar.cmpi .slt v2 c6_i32_8
  let c4_i32_9 : BitVec 32 := 4#32
  let v18 : BitVec 32 := Scalar.subi v2 c4_i32_9
  let c2_i32_10 : BitVec 32 := 2#32
  let v19 : BitVec 32 := Scalar.subi v2 c2_i32_10
  let v20 : BitVec 32 := Scalar.select v17 v18 v19
  let v21 : BitVec 32 := Scalar.select v15 v16 v20
  let v22 : BitVec 32 := Scalar.select v13 v14 v21
  let c1_i32_24 : BitVec 32 := 1#32
  let v38 : BitVec 32 := Scalar.muli v22 c1_i32_24
  let v39 : BitVec 32 := Scalar.addi c0_i32_25 v38
  v39.toNat
def k0_dev4 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_11 : BitVec 32 := 2#32
  let v23 : BitVec 1 := Scalar.cmpi .slt v2 c2_i32_11
  let c6_i32_12 : BitVec 32 := 6#32
  let v24 : BitVec 32 := Scalar.addi v2 c6_i32_12
  let c4_i32_13 : BitVec 32 := 4#32
  let v25 : BitVec 1 := Scalar.cmpi .slt v2 c4_i32_13
  let c2_i32_14 : BitVec 32 := 2#32
  let v26 : BitVec 32 := Scalar.addi v2 c2_i32_14
  let c6_i32_15 : BitVec 32 := 6#32
  let v27 : BitVec 1 := Scalar.cmpi .slt v2 c6_i32_15
  let c2_i32_16 : BitVec 32 := 2#32
  let v28 : BitVec 32 := Scalar.subi v2 c2_i32_16
  let c6_i32_17 : BitVec 32 := 6#32
  let v29 : BitVec 32 := Scalar.subi v2 c6_i32_17
  let v30 : BitVec 32 := Scalar.select v27 v28 v29
  let v31 : BitVec 32 := Scalar.select v25 v26 v30
  let v32 : BitVec 32 := Scalar.select v23 v24 v31
  let c1_i32_66 : BitVec 32 := 1#32
  let v64 : BitVec 32 := Scalar.muli v32 c1_i32_66
  let v65 : BitVec 32 := Scalar.addi c0_i32_67 v64
  v65.toNat
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let c4_i32 : BitVec 32 := 4#32
  let v4 : BitVec 32 := Scalar.addi v2 c4_i32
  let c4_i32_0 : BitVec 32 := 4#32
  let v5 : BitVec 1 := Scalar.cmpi .slt v2 c4_i32_0
  let c2_i32_1 : BitVec 32 := 2#32
  let v6 : BitVec 32 := Scalar.subi v2 c2_i32_1
  let c6_i32 : BitVec 32 := 6#32
  let v7 : BitVec 1 := Scalar.cmpi .slt v2 c6_i32
  let c2_i32_2 : BitVec 32 := 2#32
  let v8 : BitVec 32 := Scalar.addi v2 c2_i32_2
  let c4_i32_3 : BitVec 32 := 4#32
  let v9 : BitVec 32 := Scalar.subi v2 c4_i32_3
  let v10 : BitVec 32 := Scalar.select v7 v8 v9
  let v11 : BitVec 32 := Scalar.select v5 v6 v10
  let v12 : BitVec 32 := Scalar.select v3 v4 v11
  let c1_i32_80 : BitVec 32 := 1#32
  let v74 : BitVec 32 := Scalar.muli v12 c1_i32_80
  let v75 : BitVec 32 := Scalar.addi c0_i32_81 v74
  v75.toNat
def k0_dev6 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4 : BitVec 32 := 2#32
  let v13 : BitVec 1 := Scalar.cmpi .slt v2 c2_i32_4
  let c2_i32_5 : BitVec 32 := 2#32
  let v14 : BitVec 32 := Scalar.addi v2 c2_i32_5
  let c4_i32_6 : BitVec 32 := 4#32
  let v15 : BitVec 1 := Scalar.cmpi .slt v2 c4_i32_6
  let c4_i32_7 : BitVec 32 := 4#32
  let v16 : BitVec 32 := Scalar.addi v2 c4_i32_7
  let c6_i32_8 : BitVec 32 := 6#32
  let v17 : BitVec 1 := Scalar.cmpi .slt v2 c6_i32_8
  let c4_i32_9 : BitVec 32 := 4#32
  let v18 : BitVec 32 := Scalar.subi v2 c4_i32_9
  let c2_i32_10 : BitVec 32 := 2#32
  let v19 : BitVec 32 := Scalar.subi v2 c2_i32_10
  let v20 : BitVec 32 := Scalar.select v17 v18 v19
  let v21 : BitVec 32 := Scalar.select v15 v16 v20
  let v22 : BitVec 32 := Scalar.select v13 v14 v21
  let c1_i32_94 : BitVec 32 := 1#32
  let v84 : BitVec 32 := Scalar.muli v22 c1_i32_94
  let v85 : BitVec 32 := Scalar.addi c0_i32_95 v84
  v85.toNat
def k0_dev7 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_11 : BitVec 32 := 2#32
  let v23 : BitVec 1 := Scalar.cmpi .slt v2 c2_i32_11
  let c6_i32_12 : BitVec 32 := 6#32
  let v24 : BitVec 32 := Scalar.addi v2 c6_i32_12
  let c4_i32_13 : BitVec 32 := 4#32
  let v25 : BitVec 1 := Scalar.cmpi .slt v2 c4_i32_13
  let c2_i32_14 : BitVec 32 := 2#32
  let v26 : BitVec 32 := Scalar.addi v2 c2_i32_14
  let c6_i32_15 : BitVec 32 := 6#32
  let v27 : BitVec 1 := Scalar.cmpi .slt v2 c6_i32_15
  let c2_i32_16 : BitVec 32 := 2#32
  let v28 : BitVec 32 := Scalar.subi v2 c2_i32_16
  let c6_i32_17 : BitVec 32 := 6#32
  let v29 : BitVec 32 := Scalar.subi v2 c6_i32_17
  let v30 : BitVec 32 := Scalar.select v27 v28 v29
  let v31 : BitVec 32 := Scalar.select v25 v26 v30
  let v32 : BitVec 32 := Scalar.select v23 v24 v31
  let c1_i32_108 : BitVec 32 := 1#32
  let v94 : BitVec 32 := Scalar.muli v32 c1_i32_108
  let v95 : BitVec 32 := Scalar.addi c0_i32_109 v94
  v95.toNat
def k0_dev8 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 1 := Scalar.cmpi .slt v2 c2_i32
  let c4_i32 : BitVec 32 := 4#32
  let v4 : BitVec 32 := Scalar.addi v2 c4_i32
  let c4_i32_0 : BitVec 32 := 4#32
  let v5 : BitVec 1 := Scalar.cmpi .slt v2 c4_i32_0
  let c2_i32_1 : BitVec 32 := 2#32
  let v6 : BitVec 32 := Scalar.subi v2 c2_i32_1
  let c6_i32 : BitVec 32 := 6#32
  let v7 : BitVec 1 := Scalar.cmpi .slt v2 c6_i32
  let c2_i32_2 : BitVec 32 := 2#32
  let v8 : BitVec 32 := Scalar.addi v2 c2_i32_2
  let c4_i32_3 : BitVec 32 := 4#32
  let v9 : BitVec 32 := Scalar.subi v2 c4_i32_3
  let v10 : BitVec 32 := Scalar.select v7 v8 v9
  let v11 : BitVec 32 := Scalar.select v5 v6 v10
  let v12 : BitVec 32 := Scalar.select v3 v4 v11
  let c1_i32_122 : BitVec 32 := 1#32
  let v104 : BitVec 32 := Scalar.muli v12 c1_i32_122
  let v105 : BitVec 32 := Scalar.addi c0_i32_123 v104
  v105.toNat
def k0_dev9 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4 : BitVec 32 := 2#32
  let v13 : BitVec 1 := Scalar.cmpi .slt v2 c2_i32_4
  let c2_i32_5 : BitVec 32 := 2#32
  let v14 : BitVec 32 := Scalar.addi v2 c2_i32_5
  let c4_i32_6 : BitVec 32 := 4#32
  let v15 : BitVec 1 := Scalar.cmpi .slt v2 c4_i32_6
  let c4_i32_7 : BitVec 32 := 4#32
  let v16 : BitVec 32 := Scalar.addi v2 c4_i32_7
  let c6_i32_8 : BitVec 32 := 6#32
  let v17 : BitVec 1 := Scalar.cmpi .slt v2 c6_i32_8
  let c4_i32_9 : BitVec 32 := 4#32
  let v18 : BitVec 32 := Scalar.subi v2 c4_i32_9
  let c2_i32_10 : BitVec 32 := 2#32
  let v19 : BitVec 32 := Scalar.subi v2 c2_i32_10
  let v20 : BitVec 32 := Scalar.select v17 v18 v19
  let v21 : BitVec 32 := Scalar.select v15 v16 v20
  let v22 : BitVec 32 := Scalar.select v13 v14 v21
  let c1_i32_135 : BitVec 32 := 1#32
  let v114 : BitVec 32 := Scalar.muli v22 c1_i32_135
  let v115 : BitVec 32 := Scalar.addi c0_i32_136 v114
  v115.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x1024x512 : Shape := ⟨3, ![2, 1024, 512]⟩
abbrev S512x256 : Shape := ⟨2, ![512, 256]⟩
abbrev S2x1024x4x64 : Shape := ⟨4, ![2, 1024, 4, 64]⟩
abbrev S256x512 : Shape := ⟨2, ![256, 512]⟩
abbrev S2x1024x256 : Shape := ⟨3, ![2, 1024, 256]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S2x4x1024x1024 : Shape := ⟨4, ![2, 4, 1024, 1024]⟩
abbrev S1x1x1024x1024 : Shape := ⟨4, ![1, 1, 1024, 1024]⟩
abbrev S2x4x1024 : Shape := ⟨3, ![2, 4, 1024]⟩
abbrev S2x4x1024x1 : Shape := ⟨4, ![2, 4, 1024, 1]⟩
abbrev S1x1x1024x1 : Shape := ⟨4, ![1, 1, 1024, 1]⟩
abbrev S2x4x64x1024 : Shape := ⟨4, ![2, 4, 64, 1024]⟩

abbrev nBuf : Space → Nat
  | .hbm => 142
  | .vmem => 0
  | .smem => 0
  | _ => 0

abbrev hbmTy0_0 (i : Nat) : BufTy := match i % 128 with
  | 0 => ⟨S2x1024x512, .bf16⟩
  | 1 => ⟨S512x256, .bf16⟩
  | 2 => ⟨S2x1024x4x64, .bf16⟩
  | 3 => ⟨S2x1024x4x64, .bf16⟩
  | 4 => ⟨S256x512, .bf16⟩
  | 5 => ⟨S2x1024x256, .f32⟩
  | 6 => ⟨S2x1024x256, .bf16⟩
  | 7 => ⟨S2x1024x4x64, .bf16⟩
  | 8 => ⟨S1024, .i32⟩
  | 9 => ⟨S_, .i32⟩
  | 10 => ⟨S_, .i32⟩
  | 11 => ⟨S1024, .i32⟩
  | 12 => ⟨S1024, .i32⟩
  | 13 => ⟨S1024, .i32⟩
  | 14 => ⟨S_, .i32⟩
  | 15 => ⟨S1024, .i32⟩
  | 16 => ⟨S1024, .i1⟩
  | 17 => ⟨S1024, .i32⟩
  | 18 => ⟨S1024, .i32⟩
  | 19 => ⟨S_, .i32⟩
  | 20 => ⟨S1024, .i32⟩
  | 21 => ⟨S1024, .i1⟩
  | 22 => ⟨S1024, .i1⟩
  | 23 => ⟨S_, .i32⟩
  | 24 => ⟨S1024, .i32⟩
  | 25 => ⟨S1024, .i32⟩
  | 26 => ⟨S1024, .i32⟩
  | 27 => ⟨S1024x1, .i32⟩
  | 28 => ⟨S1024, .i32⟩
  | 29 => ⟨S_, .i32⟩
  | 30 => ⟨S_, .i32⟩
  | 31 => ⟨S1024, .i32⟩
  | 32 => ⟨S1024, .i32⟩
  | 33 => ⟨S1024, .i32⟩
  | 34 => ⟨S_, .i32⟩
  | 35 => ⟨S1024, .i32⟩
  | 36 => ⟨S1024, .i1⟩
  | 37 => ⟨S1024, .i32⟩
  | 38 => ⟨S1024, .i32⟩
  | 39 => ⟨S_, .i32⟩
  | 40 => ⟨S1024, .i32⟩
  | 41 => ⟨S1024, .i1⟩
  | 42 => ⟨S1024, .i1⟩
  | 43 => ⟨S_, .i32⟩
  | 44 => ⟨S1024, .i32⟩
  | 45 => ⟨S1024, .i32⟩
  | 46 => ⟨S1024, .i32⟩
  | 47 => ⟨S1x1024, .i32⟩
  | 48 => ⟨S1024x1024, .i32⟩
  | 49 => ⟨S1024x1024, .i32⟩
  | 50 => ⟨S1024x1024, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x1024, .i32⟩
  | 58 => ⟨S1x1024, .i32⟩
  | 59 => ⟨S_, .i32⟩
  | 60 => ⟨S1x1024, .i32⟩
  | 61 => ⟨S1x1024, .i1⟩
  | 62 => ⟨S_, .i32⟩
  | 63 => ⟨S1x1024, .i32⟩
  | 64 => ⟨S1x1024, .i1⟩
  | 65 => ⟨S_, .i32⟩
  | 66 => ⟨S_, .i1⟩
  | 67 => ⟨S1x1024, .i1⟩
  | 68 => ⟨S1x1024, .i1⟩
  | 69 => ⟨S1x1024, .i1⟩
  | 70 => ⟨S1x1024, .i32⟩
  | 71 => ⟨S1x1024, .i32⟩
  | 72 => ⟨S1x1024, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S1024x1, .i32⟩
  | 80 => ⟨S1024x1, .i32⟩
  | 81 => ⟨S_, .i32⟩
  | 82 => ⟨S1024x1, .i32⟩
  | 83 => ⟨S1024x1, .i1⟩
  | 84 => ⟨S_, .i32⟩
  | 85 => ⟨S1024x1, .i32⟩
  | 86 => ⟨S1024x1, .i1⟩
  | 87 => ⟨S_, .i32⟩
  | 88 => ⟨S_, .i1⟩
  | 89 => ⟨S1024x1, .i1⟩
  | 90 => ⟨S1024x1, .i1⟩
  | 91 => ⟨S1024x1, .i1⟩
  | 92 => ⟨S1024x1, .i32⟩
  | 93 => ⟨S1024x1, .i32⟩
  | 94 => ⟨S1024x1, .i32⟩
  | 95 => ⟨S1024x1024, .i32⟩
  | 96 => ⟨S1024x1024, .i32⟩
  | 97 => ⟨S1024x1024, .i1⟩
  | 98 => ⟨S1024x1024, .i1⟩
  | 99 => ⟨S2x4x1024x1024, .f32⟩
  | 100 => ⟨S2x4x1024x1024, .bf16⟩
  | 101 => ⟨S2x4x1024x1024, .f32⟩
  | 102 => ⟨S_, .f32⟩
  | 103 => ⟨S2x4x1024x1024, .f32⟩
  | 104 => ⟨S2x4x1024x1024, .f32⟩
  | 105 => ⟨S1x1x1024x1024, .i1⟩
  | 106 => ⟨S_, .f32⟩
  | 107 => ⟨S_, .f32⟩
  | 108 => ⟨S2x4x1024x1024, .i1⟩
  | 109 => ⟨S2x4x1024x1024, .f32⟩
  | 110 => ⟨S2x4x1024x1024, .f32⟩
  | 111 => ⟨S_, .f32⟩
  | 112 => ⟨S2x4x1024, .f32⟩
  | 113 => ⟨S2x4x1024x1, .f32⟩
  | 114 => ⟨S2x4x1024x1024, .f32⟩
  | 115 => ⟨S2x4x1024x1024, .f32⟩
  | 116 => ⟨S2x4x1024x1024, .f32⟩
  | 117 => ⟨S_, .i1⟩
  | 118 => ⟨S1024, .i1⟩
  | 119 => ⟨S1x1x1024x1, .i1⟩
  | 120 => ⟨S_, .f32⟩
  | 121 => ⟨S2x4x1024, .f32⟩
  | 122 => ⟨S2x4x1024x1, .f32⟩
  | 123 => ⟨S_, .f32⟩
  | 124 => ⟨S_, .f32⟩
  | 125 => ⟨S2x4x1024x1, .i1⟩
  | 126 => ⟨S2x4x1024x1, .f32⟩
  | 127 => ⟨S2x4x1024x1, .f32⟩
  | _ => ⟨S2x1024x512, .bf16⟩

abbrev hbmTy0_1 (i : Nat) : BufTy := match i % 128 with
  | 0 => ⟨S2x4x1024x1024, .f32⟩
  | 1 => ⟨S2x4x1024x1024, .f32⟩
  | 2 => ⟨S1x1x1024x1, .i1⟩
  | 3 => ⟨S_, .f32⟩
  | 4 => ⟨S_, .f32⟩
  | 5 => ⟨S2x4x1024x1024, .i1⟩
  | 6 => ⟨S2x4x1024x1024, .f32⟩
  | 7 => ⟨S2x4x1024x1024, .f32⟩
  | 8 => ⟨S2x1024x4x64, .f32⟩
  | 9 => ⟨S2x4x64x1024, .f32⟩
  | 10 => ⟨S2x1024x4x64, .f32⟩
  | 11 => ⟨S2x1024x256, .f32⟩
  | 12 => ⟨S256x512, .f32⟩
  | 13 => ⟨S2x1024x512, .f32⟩
  | _ => ⟨S2x1024x512, .bf16⟩

abbrev hbmTy (i : Nat) : BufTy := match i / 128 with
  | 0 => hbmTy0_0 i
  | 1 => hbmTy0_1 i
  | _ => ⟨S2x1024x512, .bf16⟩

abbrev bufTy : (tb : Table) → Fin (tcTables nBuf tb) → BufTy
  | .hbm, ⟨i, _⟩ => hbmTy i
  | _, _ => ⟨S2x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v12 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_5 : Ref sig .tc := ⟨.hbm, 117, rfl⟩
abbrev main_v30 : Ref sig .tc := ⟨.hbm, 118, rfl⟩
abbrev main_v31 : Ref sig .tc := ⟨.hbm, 119, rfl⟩
abbrev main_cst_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_8 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Finite.lean ====
/-
# The precondition, read back

Its bit is the conjunction of three `jnp.all`s of `|·| < inf`: so every entry of a device's `x`, `Wq` and `K_ext` is real.
-/
module

public import proofs.«01_k».proof.Proof.Gen.Pre_finite_inputs_KernelIdeal
public import Idealize.ShloMosaic.Lib.Pointwise
public import Idealize.ShloMosaic.Lib.ReduceAll

@[expose] public section

noncomputable section

namespace Cert.Plain

open Cert.Pre_finite_inputs_KernelIdeal Cert.Pre_finite_inputs_KernelIdeal.Gen

open Idealize.ShloMosaic

theorem inf_bits : Ideal.ofBits .bf16 0x7F80#16 = ⊤ := by simp [Ideal.ofBits, Ideal.ieee]

/-- An extended real whose absolute value is below infinity is real. -/
theorem real_of_bit (a : EReal) (h : FloatOps.cmpf (F := Ideal) (φ := .bf16) .olt (max a (-a) : EReal) (Ideal.ofBits .bf16 0x7F80#16) = 1#1) :
    ∃ y : ℝ, a = (y : EReal) := by
  rw [inf_bits] at h
  induction a using EReal.rec with
  | bot => exact absurd h (by simp [FloatOps.cmpf, Ideal.cmp])
  | top => exact absurd h (by simp [FloatOps.cmpf, Ideal.cmp])
  | coe y => exact ⟨y, rfl⟩

instance : Subsingleton S_.Idx := ⟨fun a b => funext fun i => i.elim0⟩

theorem finite_of_pre (x : FVec Ideal S2x128x512 .bf16) (wq : FVec Ideal S512x256 .bf16) (k v : FVec Ideal S2x128x4x64 .bf16)
    (wo : FVec Ideal S256x512 .bf16) (h : fn (F := Ideal) x wq k v wo = fun _ => 1#1) :
    (∀ i, ∃ y : ℝ, x i = (y : EReal)) ∧ (∀ i, ∃ y : ℝ, wq i = (y : EReal)) ∧ (∀ i, ∃ y : ℝ, k i = (y : EReal)) := by
  have e := congrFun h ix0
  obtain ⟨e1, e2⟩ := IntOp.andi_eq_one.1 e
  obtain ⟨e3, e4⟩ := IntOp.andi_eq_one.1 e1
  exact ⟨fun i => real_of_bit _ (Host.reduce_andi_all _ _ _ _ _ e3 i), fun i => real_of_bit _ (Host.reduce_andi_all _ _ _ _ _ e4 i),
    fun i => real_of_bit _ (Host.reduce_andi_all _ _ _ _ _ e2 i)⟩

end Cert.Plain
end
-- ==== Proof.Protocol.lean ====
/-
# The exchange: who sends what to whom, and on which semaphores

Eight devices, in two groups of four (the even and the odd ones). Device `c` copies its own keys and values (slot 0 of
its scratch) into slot `o + 1` of its peer `peer o c`, for `o = 0, 1, 2` (the next, the opposite and the previous member
of its group), keys and values apart: six transfers, transfer `j = 3 * kv + o` on the send semaphore `j` of `c` and the
receive semaphore `j` of the peer.

* Barrier semaphore of `c`: three units, duty `o` paid by `peer o c`, which hands over its landing slots `o + 1` (keys
  and values). `c` waits for three and may then write.
* Send semaphore `j` of `c`: one credit of a slot, paid by the transfer's departure, which gives back the share of slot
  0 the transfer read.
* Receive semaphore `j` of `c`: one credit of a slot, paid by the transfer of `peer (2 - o) c`, which hands over slot
  `o + 1` holding that device's keys or values.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The rounds library's ghost state over this signature, duties numbered below 3. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The peers -/

/-- The next, the opposite and the previous member of a device's group of four: 0 → 4 → 6 → 2 → 0 and 1 → 5 → 7 → 3 → 1. -/
def peer : Fin 3 → Dev nD → Dev nD
  | 0, c => (![4, 5, 0, 1, 6, 7, 2, 3] : Fin 8 → Fin 8) c
  | 1, c => (![6, 7, 4, 5, 2, 3, 0, 1] : Fin 8 → Fin 8) c
  | 2, c => (![2, 3, 6, 7, 0, 1, 4, 5] : Fin 8 → Fin 8) c

theorem peer_rev : ∀ (o : Fin 3) (c : Dev nD), peer o (peer o.rev c) = c := by decide
theorem peer_rev' : ∀ (o : Fin 3) (c : Dev nD), peer o.rev (peer o c) = c := by decide

/-- The devices and their peers, matched. -/
def ring (o : Fin 3) : Dev nD ≃ Dev nD := ⟨peer o, peer o.rev, peer_rev' o, peer_rev o⟩

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 1 c := by revert c; decide +kernel
theorem dev5_eq (c : Dev nD) : (⟨k0_dev5 c, k0_dev5_lt c⟩ : Dev nD) = peer 0 c := by revert c; decide +kernel
theorem dev6_eq (c : Dev nD) : (⟨k0_dev6 c, k0_dev6_lt c⟩ : Dev nD) = peer 2 c := by revert c; decide +kernel
theorem dev7_eq (c : Dev nD) : (⟨k0_dev7 c, k0_dev7_lt c⟩ : Dev nD) = peer 1 c := by revert c; decide +kernel
theorem dev8_eq (c : Dev nD) : (⟨k0_dev8 c, k0_dev8_lt c⟩ : Dev nD) = peer 0 c := by revert c; decide +kernel
theorem dev9_eq (c : Dev nD) : (⟨k0_dev9 c, k0_dev9_lt c⟩ : Dev nD) = peer 2 c := by revert c; decide +kernel

/-! ## The memrefs, the semaphores, the cells -/

abbrev xM : Memref sig .tc .vmem S2x128x512 .bf16 := Memref.whole cc0_stg0_0
abbrev wqM : Memref sig .tc .vmem S512x256 .bf16 := Memref.whole cc0_stg1_0
abbrev kM : Memref sig .tc .vmem S2x128x4x64 .bf16 := Memref.whole cc0_stg2_0
abbrev vM : Memref sig .tc .vmem S2x128x4x64 .bf16 := Memref.whole cc0_stg3_0
abbrev woM : Memref sig .tc .vmem S256x512 .bf16 := Memref.whole cc0_stg4_0
abbrev outM : Memref sig .tc .vmem S2x128x512 .f32 := Memref.whole cc0_stg5_0
/-- The scratch: four slots of keys and values. -/
abbrev gM : Memref sig .tc .vmem S4x2x2x128x256 .bf16 := Memref.whole cc0_scratch0

abbrev SlotInb (o kv : ℕ) : Prop := ∀ a, (![o, kv, 0, 0, 0] : Fin 5 → Nat) a + S1x1x2x128x256.size a ≤ S4x2x2x128x256.size a
theorem slotInb : ∀ (o : Fin 4) (kv : Fin 2), SlotInb o.val kv.val := by decide

/-- Slot `o`'s keys (`kv = 0`) or values (`kv = 1`), as the kernel's transfers name it. -/
abbrev slotM (o kv : ℕ) (h : SlotInb o kv) : Memref sig .tc .vmem S2x128x256 .bf16 :=
  (gM.slice (Rect.unit (s := S4x2x2x128x256) ![o, kv, 0, 0, 0] S1x1x2x128x256.size h) (fun _ => rfl)).squeeze S2x128x256
    squeezes_S1x1x2x128x256_S2x128x256

abbrev barS : Sem sig := (SemArray.scalar (sig.barrier 0 rfl) : Sems sig S_).sem
abbrev sendS (j : Fin 6) : DmaSem sig := ⟨6 + j.val, by have := j.isLt; show 6 + j.val < 18; omega⟩
abbrev recvS (j : Fin 6) : DmaSem sig := ⟨12 + j.val, by have := j.isLt; show 12 + j.val < 18; omega⟩

abbrev barCell (c : Dev nD) : GSem nD τ sig := ((c : Thread nD τ), .reg barS)
abbrev sendCell (j : Fin 6) (c : Dev nD) : GSem nD τ sig := ((c : Thread nD τ), .dma (sendS j))
abbrev recvCell (j : Fin 6) (c : Dev nD) : GSem nD τ sig := ((c : Thread nD τ), .dma (recvS j))

/-- Transfer `j` goes to slot `oOf j + 1` of peer `oOf j`, and carries keys (`kvOf j = 0`) or values. -/
def oOf (j : Fin 6) : Fin 3 := ⟨j.val % 3, Nat.mod_lt _ (by decide)⟩
def kvOf (j : Fin 6) : Fin 2 := ⟨j.val / 3, by have := j.isLt; omega⟩

/-- The credit of one slot. -/
abbrev N : ℕ := (slotM 0 0 (slotInb 0 0)).view.dmaCredit
theorem N_pos : 0 < N := View.dmaCredit_pos _ (by decide)

/-! ## Contents -/

/-- What the six staging buffers hold when the body starts: the device's argument blocks. -/
def stgX (c : Dev nD) : (cc0_stg0_0 : Ref sig .tc).ty.Contents (Elt F) := (win0_0.blk (0 : Fin 1)).view.read (Elt F) (m ((c : Thread nD τ).loc main_arg0))
def stgWq (c : Dev nD) : (cc0_stg1_0 : Ref sig .tc).ty.Contents (Elt F) := (win0_1.blk (0 : Fin 1)).view.read (Elt F) (m ((c : Thread nD τ).loc main_arg1))
def stgK (c : Dev nD) : (cc0_stg2_0 : Ref sig .tc).ty.Contents (Elt F) := (win0_2.blk (0 : Fin 1)).view.read (Elt F) (m ((c : Thread nD τ).loc main_arg2))
def stgV (c : Dev nD) : (cc0_stg3_0 : Ref sig .tc).ty.Contents (Elt F) := (win0_3.blk (0 : Fin 1)).view.read (Elt F) (m ((c : Thread nD τ).loc main_arg3))
def stgWo (c : Dev nD) : (cc0_stg4_0 : Ref sig .tc).ty.Contents (Elt F) := (win0_4.blk (0 : Fin 1)).view.read (Elt F) (m ((c : Thread nD τ).loc main_arg4))

/-- The keys (`kv = 0`) or values (`kv = 1`) of batch `b` that device `c` stores into its slot 0. -/
def slab (c : Dev nD) : Fin 2 → Fin 2 → Vec F S1x1x1x128x256 .bf16
  | 0, 0 => k0_pay1 (kM.view.readAt (Elt F) (Rect.unit (s := S2x128x4x64) ![0, 0, 0, 0] S1x128x4x64.size inb_S2x128x4x64_S1x128x4x64_0_0_0_0).toLoadRect (stgK m c))
  | 0, 1 => k0_pay4 (k0_pay3 (kM.view.readAt (Elt F) (Rect.unit (s := S2x128x4x64) ![1, 0, 0, 0] S1x128x4x64.size inb_S2x128x4x64_S1x128x4x64_1_0_0_0).toLoadRect (stgK m c)))
  | 1, 0 => k0_pay2 (vM.view.readAt (Elt F) (Rect.unit (s := S2x128x4x64) ![0, 0, 0, 0] S1x128x4x64.size inb_S2x128x4x64_S1x128x4x64_0_0_0_0).toLoadRect (stgV m c))
  | 1, 1 => k0_pay5 (vM.view.readAt (Elt F) (Rect.unit (s := S2x128x4x64) ![1, 0, 0, 0] S1x128x4x64.size inb_S2x128x4x64_S1x128x4x64_1_0_0_0).toLoadRect (stgV m c))

/-- The position of an element of the scratch inside its slab. -/
def inSlab (i : S4x2x2x128x256.Idx) : S1x1x1x128x256.Idx := fun
  | 0 => (0 : Fin 1) | 1 => (0 : Fin 1) | 2 => (0 : Fin 1) | 3 => (i 3 : Fin 128) | 4 => (i 4 : Fin 256)

/-- A scratch each of whose slots holds device `c`'s keys and values. -/
def kvBuf (c : Dev nD) : (cc0_scratch0 : Ref sig .tc).ty.Contents (Elt F) := fun (i : S4x2x2x128x256.Idx) => slab m c (i 1) (i 2) (inSlab i)

/-- Slot `o`'s keys or values on device `d`, held at share `q` with contents `f`. -/
def slotPts (d : Dev nD) (o : Fin 4) (kv : Fin 2) (q : PosShare TreeShare) (f : Buf (Elt F) ((d : Thread nD τ).loc cc0_scratch0)) : sProp 𝕄 :=
  (slotM o kv (slotInb o kv)).view.loc (d : Thread nD τ) ↦[(slotM o kv (slotInb o kv)).view.set]{q} f

omit [Named F] in
instance slotPts_storable (d : Dev nD) (o kv q f) : BI.Storable (upEmb : UEmb _ 𝕄) (slotPts (F := F) d o kv q f) := by unfold slotPts; infer_instance

/-- The share of slot 0 that transfer `j` reads at. -/
def shareOf : Fin 3 → PosShare TreeShare
  | 0 => fullShare.left.left | 1 => fullShare.left.right | 2 => fullShare.right.left

/-! ## The schedule -/

/-- Duty `o` of device `d`'s barrier: `peer o d`'s two landing slots. -/
def barPay (d : Dev nD) (o : Fin 3) : sProp 𝕄 :=
  iprop((∃ f, slotPts (peer o d) o.succ 0 fullShare f) ∗ (∃ f, slotPts (peer o d) o.succ 1 fullShare f))

/-- The slot-0 share that transfer `j` of device `d` gives back at its departure. -/
def sendPay (d : Dev nD) (j : Fin 6) : sProp 𝕄 := slotPts d 0 (kvOf j) (shareOf (oOf j)) (kvBuf m d)

/-- The slot that the transfer `j` arriving at device `d` fills. -/
def recvPay (d : Dev nD) (j : Fin 6) : sProp 𝕄 := slotPts d (oOf j).succ (kvOf j) fullShare (kvBuf m (peer (oOf j).rev d))

instance barPay_storable (d o) : BI.Storable (upEmb : UEmb _ 𝕄) (barPay (F := F) d o) := by unfold barPay; infer_instance
instance sendPay_storable (d j) : BI.Storable (upEmb : UEmb _ 𝕄) (sendPay (F := F) m d j) := by unfold sendPay; infer_instance
instance recvPay_storable (d j) : BI.Storable (upEmb : UEmb _ 𝕄) (recvPay (F := F) m d j) := by unfold recvPay; infer_instance

/-- The transfer a DMA semaphore belongs to. -/
def jOf (q : DmaSem sig) : Fin 6 := ⟨q.val % 6, Nat.mod_lt _ (by decide)⟩
theorem jOf_send (j : Fin 6) : jOf (sendS j) = j := by revert j; decide
theorem jOf_recv (j : Fin 6) : jOf (recvS j) = j := by revert j; decide

def dutiesOf : SemLoc sig → Finset (Fin 3)
  | .reg _ => Finset.univ
  | .dma q => if 6 ≤ q.val then {0} else ∅

def payOf (d : Dev nD) : SemLoc sig → Fin 3 → sProp 𝕄
  | .reg _, o => barPay d o
  | .dma q, _ => if q.val < 12 then sendPay m d (jOf q) else recvPay m d (jOf q)

instance payOf_storable (d g o) : BI.Storable (upEmb : UEmb _ 𝕄) (payOf (F := F) m d g o) := by
  match g with
  | .reg _ => exact inferInstanceAs (BI.Storable upEmb (barPay d o))
  | .dma q => unfold payOf; dsimp only; split <;> infer_instance

def amountOf' : SemLoc sig → ℕ
  | .reg _ => 1
  | .dma _ => N

/-- The schedule of every cell: one round. -/
def sched : Rounds.Schedule (GSem nD τ sig) (Fin 3) 𝕄 where
  duties g r := if r = 0 ∧ g.1.2 = .tc then dutiesOf g.2 else ∅
  unitless _ := False
  amount g _ _ := amountOf' g.2
  payload g _ d := payOf m g.1.1 g.2 d
  amount_pos g _ _ _ := by
    cases g.2
    · exact Nat.one_pos
    · exact N_pos

instance sched_payload_storable (g : GSem nD τ sig) (r : ℕ) (d : Fin 3) : BI.Storable (upEmb : UEmb _ 𝕄) ((sched (F := F) m).payload g r d) :=
  inferInstanceAs (BI.Storable upEmb (payOf m g.1.1 g.2 d))

section Sched
variable (c : Dev nD) (j : Fin 6)

theorem duties_bar : (sched (F := F) m).duties (barCell c) 0 = Finset.univ := by dsimp only [sched]; rw [if_pos ⟨rfl, rfl⟩]; rfl
theorem duties_send : (sched (F := F) m).duties (sendCell j c) 0 = {0} := by
  dsimp only [sched]; rw [if_pos ⟨rfl, rfl⟩]; exact if_pos (by show 6 ≤ 6 + j.val; omega)
theorem duties_recv : (sched (F := F) m).duties (recvCell j c) 0 = {0} := by
  dsimp only [sched]; rw [if_pos ⟨rfl, rfl⟩]; exact if_pos (by show 6 ≤ 12 + j.val; omega)
theorem duties_later (g : GSem nD τ sig) : ∀ r, 1 ≤ r → (sched (F := F) m).duties g r = ∅ :=
  fun r hr => by dsimp only [sched]; rw [if_neg fun h => by omega]

theorem amount_bar (d : Fin 3) : (sched (F := F) m).amount (barCell c) 0 d = 1 := rfl
theorem amount_send (d : Fin 3) : (sched (F := F) m).amount (sendCell j c) 0 d = N := rfl
theorem amount_recv (d : Fin 3) : (sched (F := F) m).amount (recvCell j c) 0 d = N := rfl

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell j c) 0 = N := by
  unfold Schedule.expect Schedule.amountOf; rw [duties_send, Finset.sum_singleton, amount_send]
theorem expect_recv : (sched (F := F) m).expect (recvCell j c) 0 = N := by
  unfold Schedule.expect Schedule.amountOf; rw [duties_recv, Finset.sum_singleton, amount_recv]

theorem payload_bar (d : Fin 3) : (sched (F := F) m).payload (barCell c) 0 d = barPay c d := rfl
theorem payload_send (d : Fin 3) : (sched (F := F) m).payload (sendCell j c) 0 d = sendPay m c j := by
  show (if 6 + j.val < 12 then sendPay m c (jOf (sendS j)) else recvPay m c (jOf (sendS j))) = _
  rw [if_pos (by have := j.isLt; omega), jOf_send]
theorem payload_recv (d : Fin 3) : (sched (F := F) m).payload (recvCell j c) 0 d = recvPay m c j := by
  show (if 12 + j.val < 12 then sendPay m c (jOf (recvS j)) else recvPay m c (jOf (recvS j))) = _
  rw [if_neg (by omega), jOf_recv]

theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send : bigSep ((sched (F := F) m).duties (sendCell j c) 0 \ ∅) (fun d => (sched (F := F) m).payload (sendCell j c) 0 d) = sendPay m c j := by
  rw [Finset.sdiff_empty, duties_send, bigSep_singleton, payload_send]
theorem rest_recv : bigSep ((sched (F := F) m).duties (recvCell j c) 0 \ ∅) (fun d => (sched (F := F) m).payload (recvCell j c) 0 d) = recvPay m c j := by
  rw [Finset.sdiff_empty, duties_recv, bigSep_singleton, payload_recv]

end Sched

/-! ## What each core owes at launch; the levels -/

/-- The receive credits device `c` owes, the last paid innermost. -/
def Osend (c : Dev nD) : CellTallies nD τ sig Unit :=
  ((((((0 + tallyAt (recvCell 5 (peer 2 c)) () N) + tallyAt (recvCell 3 (peer 0 c)) () N) + tallyAt (recvCell 4 (peer 1 c)) () N)
    + tallyAt (recvCell 2 (peer 2 c)) () N) + tallyAt (recvCell 0 (peer 0 c)) () N) + tallyAt (recvCell 1 (peer 1 c)) () N)

def O₀ (c : Dev nD) : CellTallies nD τ sig Unit :=
  ((Osend c + tallyAt (barCell (peer 2 c)) () 1) + tallyAt (barCell (peer 1 c)) () 1) + tallyAt (barCell (peer 0 c)) () 1

def L (g : GSem nD τ sig) : Finset Unit := if g.1.2 = .tc then {()} else ∅
/-- Staging and send cells lowest, then the barrier, then the receive cells. -/
def lvOf : SemLoc sig → ℕ
  | .reg _ => 1
  | .dma q => if q.val < 12 then 0 else 2
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

end Cert.Exchange
end
-- ==== Proof.Slots.lean ====
/-
# The scratch's slots: where they lie, and what they hold

The scratch is eight pieces (four slots, keys and values). A transfer copies slot 0's piece to slot `o + 1`'s on the
peer, element for element, so a buffer that looks the same in every slot (`kvBuf`) is carried to itself; and a load of
one batch of a slot reads the slab stored there.
-/
module

public import proofs.«01_k».proof.Proof.Protocol
public import Idealize.ShloMosaic.Lib.Ring

@[expose] public section

noncomputable section

namespace Cert.Exchange

open Cert.KernelIdeal Cert.KernelIdeal.Gen

open Idealize.ShloMosaic Idealize.ShloMosaic.Ring
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (m : (ℓ : Loc nD τ sig) → Buf (Elt F) ℓ)

/-- The rectangle of a slot's piece. -/
abbrev slotR (o : Fin 4) (kv : Fin 2) : Rect S4x2x2x128x256 :=
  Rect.unit (s := S4x2x2x128x256) ![o, kv, 0, 0, 0] S1x1x2x128x256.size (slotInb o kv)

theorem slot_set (o : Fin 4) (kv : Fin 2) : (slotM o kv (slotInb o kv)).view.set = (slotR o kv).set :=
  (View.set_reshape _ _).trans (View.set_slice_whole _ _)

/-- An element lies in the piece its first two coordinates name. -/
theorem mem_slot {o : Fin 4} {kv : Fin 2} {i : S4x2x2x128x256.Idx} : i ∈ (slotR o kv).set ↔ (i 0).val = o.val ∧ (i 1).val = kv.val := by
  rw [Rect.mem_set_unit]
  constructor
  · intro h
    have h0 := h 0; have h1 := h 1
    change o.val ≤ (i 0).val ∧ (i 0).val < o.val + 1 at h0
    change kv.val ≤ (i 1).val ∧ (i 1).val < kv.val + 1 at h1
    omega
  · rintro ⟨h0, h1⟩ a
    have hb := (i a).isLt
    fin_cases a
    · change o.val ≤ (i 0).val ∧ (i 0).val < o.val + 1; omega
    · change kv.val ≤ (i 1).val ∧ (i 1).val < kv.val + 1; omega
    · exact ⟨Nat.zero_le _, by change (i 2).val < 0 + 2; change (i 2).val < 2 at hb; omega⟩
    · exact ⟨Nat.zero_le _, by change (i 3).val < 0 + 128; change (i 3).val < 128 at hb; omega⟩
    · exact ⟨Nat.zero_le _, by change (i 4).val < 0 + 256; change (i 4).val < 256 at hb; omega⟩

/-- The pieces, by slot and kind. -/
def pieceSet (p : Fin 4 × Fin 2) : Finset (S4x2x2x128x256.Idx) := (slotR p.1 p.2).set

theorem piece_disjoint (p p' : Fin 4 × Fin 2) (h : p ≠ p') : Disjoint (pieceSet p) (pieceSet p') := by
  rw [Finset.disjoint_left]
  intro i hi hi'
  have h1 := mem_slot.mp hi; have h2 := mem_slot.mp hi'
  exact h (Prod.ext (Fin.ext (h1.1.symm.trans h2.1)) (Fin.ext (h1.2.symm.trans h2.2)))

theorem piece_cover : Finset.univ.biUnion pieceSet = Finset.univ := by
  ext i
  simp only [Finset.mem_biUnion, Finset.mem_univ, true_and, iff_true]
  exact ⟨((i 0 : Fin 4), (i 1 : Fin 2)), mem_slot.mpr ⟨rfl, rfl⟩⟩

omit [FloatOps F] [Named F] in
theorem slotPts_eq (d : Dev nD) (o : Fin 4) (kv : Fin 2) (q : PosShare TreeShare) (f : Buf (Elt F) ((d : Thread nD τ).loc cc0_scratch0)) :
    (slotPts d o kv q f : sProp 𝕄) = (((d : Thread nD τ).loc cc0_scratch0) ↦[pieceSet (o, kv)]{q} f) := by
  unfold slotPts; rw [slot_set]; rfl

omit [FloatOps F] [Named F] in
/-- The whole scratch is its eight pieces. -/
theorem scratch_split (d : Dev nD) (f : Buf (Elt F) ((d : Thread nD τ).loc cc0_scratch0)) :
    ((((d : Thread nD τ).loc cc0_scratch0) ↦{fullShare} f : sProp 𝕄))
      = bigSep Finset.univ fun p : Fin 4 × Fin 2 => slotPts d p.1 p.2 fullShare f := by
  refine (pointsTo_blocks (ℓ := (d : Thread nD τ).loc cc0_scratch0) pieceSet piece_disjoint piece_cover f).trans ?_
  exact bigSep_congr fun p _ => (slotPts_eq d p.1 p.2 fullShare f).symm

omit [FloatOps F] [Named F] in
/-- Eight pieces at any contents join to the whole scratch at some contents. -/
theorem scratch_join (d : Dev nD) (f₀ : Buf (Elt F) ((d : Thread nD τ).loc cc0_scratch0)) :
    (bigSep Finset.univ fun p : Fin 4 × Fin 2 => (iprop(∃ f, slotPts d p.1 p.2 fullShare f) : sProp 𝕄))
      ⊢ iprop(∃ g, ((d : Thread nD τ).loc cc0_scratch0) ↦{fullShare} g) := by
  refine BIBase.Entails.trans (Entails.of_eq (bigSep_congr fun p _ => ?_))
    (pointsTo_blocks_join_exists (ℓ := (d : Thread nD τ).loc cc0_scratch0) pieceSet piece_disjoint piece_cover f₀)
  congr 1; funext f; exact slotPts_eq d p.1 p.2 fullShare f

/-- Contents that agree on a piece are the same piece. -/
theorem slotPts_congr (d : Dev nD) (o : Fin 4) (kv : Fin 2) (q : PosShare TreeShare) {f g : Buf (Elt F) ((d : Thread nD τ).loc cc0_scratch0)}
    (h : ∀ i : S4x2x2x128x256.Idx, (i 0).val = o.val → (i 1).val = kv.val → f i = g i) : (slotPts d o kv q f : sProp 𝕄) = slotPts d o kv q g := by
  rw [slotPts_eq, slotPts_eq]
  exact pointsTo_congr fun i hi => h i (mem_slot.mp hi).1 (mem_slot.mp hi).2

/-- Two elements that differ in their slot alone hold the same in `kvBuf`. -/
theorem kvBuf_slot (c : Dev nD) (i i' : S4x2x2x128x256.Idx) (h1 : i 1 = i' 1) (h2 : i 2 = i' 2) (h3 : i 3 = i' 3) (h4 : i 4 = i' 4) :
    kvBuf m c i = kvBuf m c i' := by
  unfold kvBuf inSlab; simp only [h1, h2, h3, h4]

/-- Where an element of a piece lies in the scratch. -/
theorem slot_emb (o : Fin 4) (kv : Fin 2) (x : S2x128x256.Idx) :
    (slotM o kv (slotInb o kv)).view.emb x = (slotR o kv).emb (Shape.reshapeEquiv squeezes_S1x1x2x128x256_S2x128x256.numel_eq x) := rfl

/-- A landing: what the transfer of a slot-0 piece leaves in the target's piece. -/
theorem landing (c d : Dev nD) (o : Fin 4) (kv : Fin 2) (fd : Buf (Elt F) ((d : Thread nD τ).loc cc0_scratch0)) :
    (slotPts d o kv fullShare ((slotM o kv (slotInb o kv)).view.write (Elt F) fd
        ((slotM 0 kv (slotInb 0 kv)).view.read (Elt F) (kvBuf m c : (cc0_scratch0 : Ref sig .tc).ty.Contents (Elt F))) Finset.univ) : sProp 𝕄)
      = slotPts d o kv fullShare (kvBuf m c) := by
  unfold slotPts
  refine pointsTo_congr fun i hi => ?_
  obtain ⟨x, -, rfl⟩ := Finset.mem_map.mp hi
  refine (View.write_emb_of_mem (v := (slotM o kv (slotInb o kv)).view) fd _ (Finset.mem_univ x)).trans ?_
  refine (cast_eq _ _).trans ((View.read_apply _ _).trans ((cast_eq _ _).trans ?_))
  exact kvBuf_slot m c _ _ rfl rfl rfl rfl

abbrev slabR (o : Fin 4) (kv b : Fin 2) (h : ∀ a, (![o.val, kv.val, b.val, 0, 0] : Fin 5 → ℕ) a + S1x1x1x128x256.size a ≤ S4x2x2x128x256.size a) : Rect S4x2x2x128x256 :=
  Rect.unit (s := S4x2x2x128x256) ![o, kv, b, 0, 0] S1x1x1x128x256.size h

/-- A load of one batch of a slot of `kvBuf` reads the slab. -/
theorem load_slab (c : Dev nD) (o : Fin 4) (kv b : Fin 2) (h : ∀ a, (![o.val, kv.val, b.val, 0, 0] : Fin 5 → ℕ) a + S1x1x1x128x256.size a ≤ S4x2x2x128x256.size a) :
    gM.view.readAt (Elt F) (slabR o kv b h).toLoadRect (kvBuf m c) = slab m c kv b := by
  funext x
  show slab m c (((slabR o kv b h).emb x) 1) (((slabR o kv b h).emb x) 2) (inSlab ((slabR o kv b h).emb x)) = _
  have x0 : (x 0).val < 1 := (x 0).isLt
  have x1 : (x 1).val < 1 := (x 1).isLt
  have x2 : (x 2).val < 1 := (x 2).isLt
  have e1 : ((slabR o kv b h).emb x) 1 = kv := Fin.ext (by rw [Rect.emb_apply]; show kv.val + 1 * (x 1).val = kv.val; omega)
  have e2 : ((slabR o kv b h).emb x) 2 = b := Fin.ext (by rw [Rect.emb_apply]; show b.val + 1 * (x 2).val = b.val; omega)
  rw [e1, e2]
  congr 1
  funext a
  refine Fin.ext ?_
  fin_cases a
  · show 0 = (x 0).val; omega
  · show 0 = (x 1).val; omega
  · show 0 = (x 2).val; omega
  · show (((slabR o kv b h).emb x) 3).val = (x 3).val; rw [Rect.emb_apply]; show 0 + 1 * (x 3).val = _; omega
  · show (((slabR o kv b h).emb x) 4).val = (x 4).val; rw [Rect.emb_apply]; show 0 + 1 * (x 4).val = _; omega

/-- A store of one slab puts the new words in its box. -/
theorem write_slab_in (o : Fin 4) (kv b : Fin 2) (h : ∀ a, (![o.val, kv.val, b.val, 0, 0] : Fin 5 → ℕ) a + S1x1x1x128x256.size a ≤ S4x2x2x128x256.size a)
    (f : (cc0_scratch0 : Ref sig .tc).ty.Contents (Elt F)) (w : Vec F S1x1x1x128x256 .bf16) (i : S4x2x2x128x256.Idx)
    (h0 : i 0 = o) (h1 : i 1 = kv) (h2 : i 2 = b) :
    (gM.access (slabR o kv b h)).write (Elt F) f w Finset.univ i = w (inSlab i) := by
  have e : (gM.access (slabR o kv b h)).emb (inSlab i) = i := by
    funext a
    refine Fin.ext ?_
    show ((slabR o kv b h).emb (inSlab i) a).val = (i a).val
    rw [Rect.emb_apply]
    fin_cases a
    · show o.val + 1 * 0 = (i 0).val; rw [h0, Nat.mul_zero, Nat.add_zero]
    · show kv.val + 1 * 0 = (i 1).val; rw [h1, Nat.mul_zero, Nat.add_zero]
    · show b.val + 1 * 0 = (i 2).val; rw [h2, Nat.mul_zero, Nat.add_zero]
    · show 0 + 1 * (i 3).val = (i 3).val; omega
    · show 0 + 1 * (i 4).val = (i 4).val; omega
  have hw := View.write_emb_of_mem (v := gM.access (slabR o kv b h)) f w (Finset.mem_univ (inSlab i))
  rw [e] at hw
  exact hw.trans (cast_eq _ _)

/-- And leaves the others as they were. -/
theorem write_slab_out (o : Fin 4) (kv b : Fin 2) (h : ∀ a, (![o.val, kv.val, b.val, 0, 0] : Fin 5 → ℕ) a + S1x1x1x128x256.size a ≤ S4x2x2x128x256.size a)
    (f : (cc0_scratch0 : Ref sig .tc).ty.Contents (Elt F)) (w : Vec F S1x1x1x128x256 .bf16) (i : S4x2x2x128x256.Idx)
    (hi : ¬(i 0 = o ∧ i 1 = kv ∧ i 2 = b)) : (gM.access (slabR o kv b h)).write (Elt F) f w Finset.univ i = f i := by
  have hn : i ∉ (gM.access (slabR o kv b h)).setOn Finset.univ := by
    intro hm
    apply hi
    obtain ⟨x, -, rfl⟩ := Finset.mem_map.mp hm
    have x0 : (x 0).val < 1 := (x 0).isLt
    have x1 : (x 1).val < 1 := (x 1).isLt
    have x2 : (x 2).val < 1 := (x 2).isLt
    refine ⟨Fin.ext ?_, Fin.ext ?_, Fin.ext ?_⟩
    · show ((slabR o kv b h).emb x 0).val = _; rw [Rect.emb_apply]; show o.val + 1 * (x 0).val = o.val; omega
    · show ((slabR o kv b h).emb x 1).val = _; rw [Rect.emb_apply]; show kv.val + 1 * (x 1).val = kv.val; omega
    · show ((slabR o kv b h).emb x 2).val = _; rw [Rect.emb_apply]; show b.val + 1 * (x 2).val = b.val; omega
  exact View.write_of_not_mem (v := gM.access (slabR o kv b h)) (Val := Elt F) f w Finset.univ hn

/-- The two stores of a piece of slot 0 leave it holding the device's own keys or values. -/
theorem stored (c : Dev nD) (kv : Fin 2) (q : PosShare TreeShare) (h0 h1) (f : (cc0_scratch0 : Ref sig .tc).ty.Contents (Elt F)) :
    (slotPts c 0 kv q ((gM.access (slabR 0 kv 1 h1)).write (Elt F) ((gM.access (slabR 0 kv 0 h0)).write (Elt F) f (slab m c kv 0) Finset.univ)
        (slab m c kv 1) Finset.univ) : sProp 𝕄) = slotPts c 0 kv q (kvBuf m c) := by
  refine slotPts_congr c 0 kv q fun i h₀ h₁ => ?_
  have e0 : i 0 = (0 : Fin 4) := Fin.ext h₀
  have e1 : i 1 = kv := Fin.ext h₁
  show _ = slab m c (i 1) (i 2) (inSlab i)
  have hi2 : i 2 = (0 : Fin 2) ∨ i 2 = (1 : Fin 2) := by
    have := (i 2).isLt; change (i 2).val < 2 at this
    rcases Nat.lt_or_ge (i 2).val 1 with h | h
    · exact .inl (Fin.ext (by show (i 2).val = 0; omega))
    · exact .inr (Fin.ext (by show (i 2).val = 1; omega))
  rcases hi2 with e2 | e2
  · rw [write_slab_out _ _ _ _ _ _ _ (fun h => absurd (congrArg Fin.val (e2.symm.trans h.2.2)) (by show ¬ (0 : ℕ) = 1; decide)), write_slab_in _ _ _ _ _ _ _ e0 e1 e2, e1, e2]
  · rw [write_slab_in _ _ _ _ _ _ _ e0 e1 e2, e1, e2]

end Cert.Exchange
end
-- ==== Proof.Steps.lean ====
/-
# One rule for each kind of statement of the exchange

A signal to a peer's barrier, the wait on the own barrier, a transfer, and the wait on a send or a receive semaphore
(which closes the cell: every cell has one round). Each is stated over the records of all cells, at a symbolic device.
-/
module

public import proofs.«01_k».proof.Proof.Slots

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-! ## The cells of the exchange, numbered -/

/-- The thirteen semaphores: the barrier, the six send, the six receive ones. -/
def kloc : Fin 13 → SemLoc sig
  | ⟨0, _⟩ => .reg barS
  | ⟨i + 1, h⟩ => .dma (⟨6 + i, by show 6 + i < 18; omega⟩ : DmaSem sig)

def kcell (p : Dev nD × Fin 13) : GSem nD τ sig := ((p.1 : Thread nD τ), kloc p.2)

abbrev sendIx (j : Fin 6) : Fin 13 := ⟨j.val + 1, by have := j.isLt; omega⟩
abbrev recvIx (j : Fin 6) : Fin 13 := ⟨6 + j.val + 1, by have := j.isLt; omega⟩

theorem kcell_bar (c : Dev nD) : kcell (c, 0) = barCell c := rfl
theorem kcell_send (c : Dev nD) (j : Fin 6) : kcell (c, sendIx j) = sendCell j c := rfl
theorem kcell_recv (c : Dev nD) (j : Fin 6) : kcell (c, recvIx j) = recvCell j c :=
  Prod.ext rfl (congrArg SemLoc.dma (Fin.ext (by show 6 + (6 + j.val) = 12 + j.val; omega)))

/-- Every slot's credit is the same. -/
theorem slot_credit (o : Fin 4) (kv : Fin 2) : (slotM o kv (slotInb o kv)).view.dmaCredit = N := rfl

theorem slot_amount (o : Fin 4) (kv : Fin 2) (q : DmaSem sig) : (slotM o kv (slotInb o kv)).view.amount (.dma q) = N := rfl

variable (K : Dev nD × Fin 13 → ℕ)

/-- What everybody knows: each cell's invariant, under the name the launch gave it, and that its round 0 is reached. -/
def records : sProp 𝕄 :=
  bigSep Finset.univ fun p : Dev nD × Fin 13 => iprop(cellInv ER (sched m) (K p) (kcell p) ∗ reached ER (kcell p) 0)

instance records_persistent : BI.Persistent (records m K) := by unfold records; infer_instance

theorem record_at (p : Dev nD × Fin 13) : records m K ⊢ iprop(cellInv ER (sched m) (K p) (kcell p) ∗ reached ER (kcell p) 0) :=
  bigSep_elim (Finset.mem_univ p)

/-- The signal to `peer o.rev`'s barrier, which pays its duty `o` with the own landing slots `o + 1`. -/
theorem wp_signal_bar (c d n : Dev nD) (o : Fin 3) (hn : n = d) (hd : peer o d = c) (O : CellTallies nD τ sig Unit) (W : Waits sig Unit)
    {α : Type} {Q : α → sProp 𝕄} {k : PUnit → Prog (TpuEff nD τ sig (Elt F) Λ₀ .tc) α} :
    iprop(records m K ∗ owes (c : Thread nD τ) (O + tallyAt (barCell d) () 1) W ∗ dutyTok ER (barCell d) 0 o
        ∗ (∃ f, slotPts c o.succ 0 fullShare f) ∗ (∃ f, slotPts c o.succ 1 fullShare f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn hd
  iintro ⟨#HR, HO, Ht, H0, H1⟩ Hk
  ihave ⟨#HI, #Hr⟩ := (record_at m K (n, 0)) $$ HR
  iapply (Rounds.wp_signal 𝒱₀ ER (sched m) (peer o n : Thread nD τ) none (dst := (n : Thread nD τ)) (κ := K (n, 0)) (r := 0)
      (d := o) (by rw [duties_bar]; exact Finset.mem_univ _) rfl () O rfl) $$ [HO Ht H0 H1]
  · isplitr; · iexact HI
    isplitl [HO]; · iexact HO
    isplitl [Ht]; · iexact Ht
    isplitl [H0 H1]
    · rw [payload_bar]; unfold barPay
      isplitl [H0]; · iexact H0
      iexact H1
    · iexact Hr
  iexact Hk

theorem Osend_pos {c : Dev nD} {g : GSem nD τ sig} {u : Unit} (h : 0 < Osend c g u) : ∃ j d, g = recvCell j d := by
  unfold Osend at h
  simp only [Pi.add_apply, Finsupp.add_apply, tallyAt_apply, Pi.zero_apply, Finsupp.coe_zero, Pi.zero_apply, zero_add] at h
  by_contra hn
  push Not at hn
  rw [if_neg fun h' => hn _ _ h'.1, if_neg fun h' => hn _ _ h'.1, if_neg fun h' => hn _ _ h'.1, if_neg fun h' => hn _ _ h'.1,
    if_neg fun h' => hn _ _ h'.1, if_neg fun h' => hn _ _ h'.1] at h
  exact Nat.lt_irrefl 0 h

omit [FloatOps F] [Named F] in
/-- At its barrier wait a device owes receive credits only, above the barrier. -/
theorem mayWait_bar (c : Dev nD) : (levAts L lv : sProp 𝕄) ⊢ MayWait (c : Thread nD τ) (.reg barS) () (Osend c) :=
  MayOwe.of_cut (L := L) (lev := lv) 1 (fun p hp => by rw [Finset.mem_singleton.mp hp, L_tc]; exact Finset.mem_singleton_self _)
    (fun g u hg => by obtain ⟨j, d, rfl⟩ := Osend_pos hg; exact Finset.mem_singleton_self _)
    (fun p hp => by rw [Finset.mem_singleton.mp hp]; exact le_refl 1)
    (fun g u hg => by
      obtain ⟨j, d, rfl⟩ := Osend_pos hg
      show 1 < (if 12 + j.val < 12 then 0 else 2)
      rw [if_neg (by omega)]; decide)

/-- The wait on the own barrier: the peers' landing slots come with it, and the cell closes. -/
theorem wp_wait_bar (c : Dev nD) (W : Waits sig Unit)
    {α : Type} {Q : α → sProp 𝕄} {k : PUnit → Prog (TpuEff nD τ sig (Elt F) Λ₀ .tc) α} :
    iprop(records m K ∗ levAts L lv ∗ cred (tallyAt (barCell c) () 3) ∗ owes (c : Thread nD τ) (Osend c) W ∗ atPos ER (barCell c) 0 ∅ 0)
      ⊢ iprop(((owes (c : Thread nD τ) (Osend c) (insert (SemLoc.reg barS, ()) W) ∗ semVal (barCell c) 0
              ∗ barPay c 0 ∗ barPay c 1 ∗ barPay c 2) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  iintro ⟨#HR, #Hlev, Hc, HO, Hat⟩ Hk
  ihave ⟨#HI, #Hr⟩ := (record_at m K (c, 0)) $$ HR
  iapply (Rounds.wp_wait_rest_token 𝒱₀ ER (sched m) (c : Thread nD τ) none (κ := K (c, 0))
      (wpE_semWait_eq 𝒱₀ (c : Thread nD τ) none Set.univ) (Set.mem_univ _) () (O := Osend c) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  imod (Rounds.cell_close ER (sched m) (Set.mem_univ (K (c, 0))) (fun h => h) (R := 0 + 1) (duties_later m (barCell c))) $$ [Hat] with Hz
  · isplitr; · iexact HI
    iexact Hat
  iapply Hk
  isplitl [HO]; · iexact HO
  isplitl [Hz]; · iexact Hz
  iapply (Entails.of_eq (rest_bar m c)); iexact Hpay

/-- Transfer `j` to `n`, its peer: slot 0's share goes to the departure, the peer's landing slot comes back to the peer
    holding this device's keys or values. -/
theorem wp_send (c n : Dev nD) (o : Fin 3) (kv : Fin 2) (j : Fin 6) (ho : oOf j = o) (hkv : kvOf j = kv) (hn : n = peer o c)
    {hsc : (slotM o.succ kv (slotInb o.succ kv) : Memref sig (Dev.tc n : Thread nD τ).2.kind .vmem S2x128x256 .bf16).view.ref.isScScratch = false}
    {hsrc : (slotM 0 kv (slotInb 0 kv)).view.WordExact} {hdst : (slotM o.succ kv (slotInb o.succ kv)).view.WordExact}
    {hsem : DmaTarget.Typed .vmem (.dma (recvS j)) (.remote (Dev.tc n : Thread nD τ) (slotM o.succ kv (slotInb o.succ kv) : Memref sig .tc .vmem S2x128x256 .bf16) (.dma (sendS j)) hsc)}
    {α : Type} {Q : α → sProp 𝕄} {k : PUnit → Prog (TpuEff nD τ sig (Elt F) Λ₀ .tc) α}
    (O : CellTallies nD τ sig Unit) (W : Waits sig Unit) :
    iprop(records m K ∗ slotPts c 0 kv (shareOf o) (kvBuf m c) ∗ (∃ f, slotPts (peer o c) o.succ kv fullShare f)
        ∗ owes (c : Thread nD τ) (O + tallyAt (recvCell j (peer o c)) () N) W
        ∗ dutyTok ER (sendCell j c) 0 0 ∗ dutyTok ER (recvCell j (peer o c)) 0 0)
      ⊢ iprop(((cred (tallyAt (sendCell j c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0 kv (slotInb 0 kv)) (.remote (Dev.tc n : Thread nD τ) (slotM o.succ kv (slotInb o.succ kv)) (.dma (sendS j)) hsc)
                (.dma (recvS j)) hsrc hdst hsem) k) Q) := by
  subst hn ho hkv
  iintro ⟨#HR, Hs, ⟨%fd, Hd⟩, HO, Hts, Htr⟩ Hk
  ihave ⟨#HIs, #Hrs⟩ := (record_at m K (c, sendIx j)) $$ HR
  ihave ⟨#HIr, #Hrr⟩ := (record_at m K (peer (oOf j) c, recvIx j)) $$ HR
  rw [kcell_send, kcell_recv]
  unfold slotPts
  iapply (Rounds.wp_send_pointsTo 𝒱₀ ER (sched m) (c : Thread nD τ) none (κ₁ := K (c, sendIx j)) (κ₂ := K (peer (oOf j) c, recvIx j))
    (r₁ := 0) (r₂ := 0) (d₁ := 0) (d₂ := 0) (fd := fd)
    (by rw [duties_send]; exact Finset.mem_singleton_self _) (by rw [duties_recv]; exact Finset.mem_singleton_self _)
    () () N (slot_amount (oOf j).succ (kvOf j) (recvS j)) (amount_send m c j 0) (amount_recv m (peer (oOf j) c) j 0) O rfl (W := W)
    (by rw [payload_send]; exact BI.Entails.refl _)
    (by rw [payload_recv]; unfold recvPay; rw [peer_rev']
        exact Entails.of_eq (landing m c (peer (oOf j) c) (oOf j).succ (kvOf j) fd))) $$ [Hs Hd HO Hts Htr]
  · isplitr; · iexact HIs
    isplitr; · iexact HIr
    isplitl [Hs]; · iexact Hs
    isplitl [Hd]; · iexact Hd
    isplitl [HO]; · iexact HO
    isplitl [Hts]; · iexact Hts
    isplitr; · iexact Hrs
    isplitl [Htr]; · iexact Htr
    iexact Hrr
  iexact Hk

/-- The wait on send semaphore `j`, owing nothing: the share of slot 0 comes back, and the cell closes. -/
theorem wp_wait_send (c : Dev nD) (j : Fin 6) (kv : Fin 2) (hkv : kvOf j = kv) (o : Fin 3) (ho : oOf j = o) (W : Waits sig Unit)
    {hsrc : (slotM o.succ kv (slotInb o.succ kv)).view.WordExact} {hdst : (slotM 0 kv (slotInb 0 kv)).view.WordExact}
    {α : Type} {Q : α → sProp 𝕄} {k : PUnit → Prog (TpuEff nD τ sig (Elt F) Λ₀ .tc) α} :
    iprop(records m K ∗ cred (tallyAt (sendCell j c) () N) ∗ owes (c : Thread nD τ) 0 W ∗ atPos ER (sendCell j c) 0 ∅ 0)
      ⊢ iprop(((owes (c : Thread nD τ) 0 (insert (SemLoc.dma (sendS j), ()) W) ∗ semVal (sendCell j c) 0
            ∗ slotPts c 0 kv (shareOf o) (kvBuf m c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) (slotM o.succ kv (slotInb o.succ kv)) (slotM 0 kv (slotInb 0 kv)) hsrc hdst) k) Q) := by
  subst hkv ho
  iintro ⟨#HR, Hc, HO, Hat⟩ Hk
  ihave ⟨#HI, #Hr⟩ := (record_at m K (c, sendIx j)) $$ HR
  rw [kcell_send]
  iapply (Rounds.wp_wait_rest_token 𝒱₀ ER (sched m) (c : Thread nD τ) none (κ := K (c, sendIx j))
      (wpE_waitDma2_eq 𝒱₀ (c : Thread nD τ) none Set.univ) (Set.mem_univ _) () (O := 0) (W := W) (R := 0) (m := 0) (T := ∅)
      (by rw [Nat.zero_add, slot_credit 0 (kvOf j), expect_send])) $$ [Hc HO Hat]
  · isplitr; · iexact HI
    isplitl [Hc]; · rw [slot_credit 0 (kvOf j)]; iexact Hc
    isplitl [HO]; · iexact HO
    isplitr; · rw [MayWait_zero]; iempintro
    iexact Hat
  iintro ⟨HO, Hat, -, Hpay⟩
  imod (Rounds.cell_close ER (sched m) (Set.mem_univ (K (c, sendIx j))) (fun h => h) (R := 0 + 1) (duties_later m (sendCell j c))) $$ [Hat] with Hz
  · isplitr; · iexact HI
    iexact Hat
  iapply Hk
  isplitl [HO]; · iexact HO
  isplitl [Hz]; · iexact Hz
  ihave Hp := (Entails.of_eq (rest_send m c j)) $$ Hpay
  unfold sendPay
  iexact Hp

/-- The wait on receive semaphore `j`, owing nothing: the slot it fills comes, and the cell closes. -/
theorem wp_wait_recv (c d : Dev nD) (j : Fin 6) (kv : Fin 2) (hkv : kvOf j = kv) (o : Fin 3) (ho : oOf j = o) (hd : peer o.rev c = d) (W : Waits sig Unit)
    {hsrc : (slotM 0 kv (slotInb 0 kv)).view.WordExact} {hdst : (slotM o.succ kv (slotInb o.succ kv)).view.WordExact}
    {α : Type} {Q : α → sProp 𝕄} {k : PUnit → Prog (TpuEff nD τ sig (Elt F) Λ₀ .tc) α} :
    iprop(records m K ∗ cred (tallyAt (recvCell j c) () N) ∗ owes (c : Thread nD τ) 0 W ∗ atPos ER (recvCell j c) 0 ∅ 0)
      ⊢ iprop(((owes (c : Thread nD τ) 0 (insert (SemLoc.dma (recvS j), ()) W) ∗ semVal (recvCell j c) 0
            ∗ slotPts c o.succ kv fullShare (kvBuf m d)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS j) (slotM 0 kv (slotInb 0 kv)) (slotM o.succ kv (slotInb o.succ kv)) hsrc hdst) k) Q) := by
  subst hd hkv ho
  iintro ⟨#HR, Hc, HO, Hat⟩ Hk
  ihave ⟨#HI, #Hr⟩ := (record_at m K (c, recvIx j)) $$ HR
  rw [kcell_recv]
  iapply (Rounds.wp_wait_rest_token 𝒱₀ ER (sched m) (c : Thread nD τ) none (κ := K (c, recvIx j))
      (wpE_waitDma2_eq 𝒱₀ (c : Thread nD τ) none Set.univ) (Set.mem_univ _) () (O := 0) (W := W) (R := 0) (m := 0) (T := ∅)
      (by rw [Nat.zero_add, slot_credit (oOf j).succ (kvOf j), expect_recv])) $$ [Hc HO Hat]
  · isplitr; · iexact HI
    isplitl [Hc]; · rw [slot_credit (oOf j).succ (kvOf j)]; iexact Hc
    isplitl [HO]; · iexact HO
    isplitr; · rw [MayWait_zero]; iempintro
    iexact Hat
  iintro ⟨HO, Hat, -, Hpay⟩
  imod (Rounds.cell_close ER (sched m) (Set.mem_univ (K (c, recvIx j))) (fun h => h) (R := 0 + 1) (duties_later m (recvCell j c))) $$ [Hat] with Hz
  · isplitr; · iexact HI
    iexact Hat
  iapply Hk
  isplitl [HO]; · iexact HO
  isplitl [Hz]; · iexact Hz
  ihave Hp := (Entails.of_eq (rest_recv m c j)) $$ Hpay
  unfold recvPay
  iexact Hp

end Cert.Exchange
end
-- ==== Proof.Tile.lean ====
/-
# What one device computes, written once over its heads, slots and batches

The kernel's text repeats the same few lines for two batches, four heads and four slots. Here they are written once:
`qv` (scaled queries of a batch), `keysAt` / `valsAt` (keys and values in a slot), `probs` (exponentials of the masked
scores against one slot), `den` and `num` (their sums and their sums against the values, slot by slot), `outV` (a
batch of the result) and `outBuf` (the result's staging buffer).
-/
module

public import proofs.«01_k».proof.Proof.Slots

@[expose] public section

noncomputable section

namespace Cert.Exchange

open Cert.KernelIdeal Cert.KernelIdeal.Gen

open Idealize.ShloMosaic
open Idealize.ShloMosaic.TcCoe

variable {F : FTy → Type} [FloatOps F] [Named F]
variable (m : (ℓ : Loc nD τ sig) → Buf (Elt F) ℓ)

/-- The device whose keys and values slot `s` of device `c` holds. -/
def srcOf (c : Dev nD) : Fin 4 → Dev nD
  | 0 => c | 1 => peer 2 c | 2 => peer 1 c | 3 => peer 0 c

theorem headSl : ∀ h : Fin 4, S128x256.Slices ![0, 64 * h.val] S128x64 := by decide
theorem batchInb : ∀ (b : Fin 2) (a), (![b.val, 0, 0] : Fin 3 → ℕ) a + S1x128x512.size a ≤ S2x128x512.size a := by decide
theorem slabInb : ∀ (o : Fin 4) (kv b : Fin 2) (a), (![o.val, kv.val, b.val, 0, 0] : Fin 5 → ℕ) a + S1x1x1x128x256.size a ≤ S4x2x2x128x256.size a := by decide

/-- The mask inside a slot: the row's and the column's blocks of 64 agree. -/
def slotMask : IVec S128x128 1 :=
  k0_pay8 (iota .tc S128x128 32 [0] iota_S128x128_d0_w32) (iota .tc S128x128 32 [1] iota_S128x128_d1_w32) 64#32 k0_pay6 k0_pay7

/-- The scaled queries of batch `b`. -/
def qv (c : Dev nD) (b : Fin 2) : FVec F S128x256 .bf16 :=
  k0_pay11 (wqM.view.readAt (Elt F) (Rect.unit (s := S512x256) ![0, 0] S512x256.size inb_S512x256_S512x256_0_0).toLoadRect (stgWq m c))
    (xM.view.readAt (Elt F) (Rect.unit (s := S2x128x512) ![b.val, 0, 0] S1x128x512.size (batchInb b)).toLoadRect (stgX m c))

/-- The keys (`kv = 0`) or values (`kv = 1`) of batch `b` in slot `s` of device `c`. -/
def kvAt (c : Dev nD) (kv : Fin 2) (b : Fin 2) (s : Fin 4) : FVec F S128x256 .bf16 :=
  shapeCast S128x256 (gM.view.readAt (Elt F) (slabR s kv b (slabInb s kv b)).toLoadRect (kvBuf m (srcOf c s))) shapeCasts_S1x1x1x128x256_S128x256

/-- Columns `64 h .. 64 h + 63`: head `h`. -/
def head (h : Fin 4) (v : FVec F S128x256 .bf16) : FVec F S128x64 .bf16 := extractStridedSlice S128x64 ![0, 64 * h.val] v (headSl h)

/-- The exponentials of the masked scores of one head's queries against one slot's keys. -/
def probs (q k : FVec F S128x64 .bf16) : FVec F S128x128 .f32 :=
  exp (select slotMask (matmul dot_S128x64_S128x64_S128x128_1_1_0_0_n_n none q k (constant S128x128 .f32 0x00000000#32))
    (broadcast S128x128 (Named.named κ "mask" 0xCE6E6B28#32)))

def ex (c : Dev nD) (b : Fin 2) (h s : Fin 4) : FVec F S128x128 .f32 := probs (head h (qv m c b)) (head h (kvAt m c 0 b s))

/-- A slot's part of the denominator. -/
def rowSum (e : FVec F S128x128 .f32) : FVec F S128x1 .f32 :=
  shapeCast S128x1 (multiReduction .add [1] S128 e 0x00000000#32 reduces_S128x128_S128 (.inl rfl) rfl) shapeCasts_S128_S128x1

/-- A slot's part of the numerator. -/
def against (e : FVec F S128x128 .f32) (v : FVec F S128x64 .bf16) : FVec F S128x64 .f32 :=
  matmul dot_S128x128_S128x64_S128x64_1_0_0_1_n_n none (truncf .bf16 e bitsLt_bf16_f32) v (constant S128x64 .f32 0x00000000#32)

def den (c : Dev nD) (b : Fin 2) (h : Fin 4) : FVec F S128x1 .f32 :=
  addf (addf (addf (rowSum (ex m c b h 0)) (rowSum (ex m c b h 1))) (rowSum (ex m c b h 3))) (rowSum (ex m c b h 2))

def num (c : Dev nD) (b : Fin 2) (h : Fin 4) : FVec F S128x64 .f32 :=
  addf (addf (addf (against (ex m c b h 0) (head h (kvAt m c 1 b 0))) (against (ex m c b h 1) (head h (kvAt m c 1 b 1))))
    (against (ex m c b h 3) (head h (kvAt m c 1 b 3)))) (against (ex m c b h 2) (head h (kvAt m c 1 b 2)))

/-- One head's context. -/
def ctx (c : Dev nD) (b : Fin 2) (h : Fin 4) : FVec F S128x64 .f32 :=
  divf (num m c b h) (broadcastTo S128x64 (den m c b h) broadcasts_S128x1_S128x64)

/-- Batch `b` of the result. -/
def outV (c : Dev nD) (b : Fin 2) : FVec F S1x128x512 .f32 :=
  shapeCast S1x128x512 (matmul dot_S128x256_S256x512_S128x512_1_0_0_1_n_n none
    (truncf .bf16 (concatenate S128x256 1 [⟨S128x64, ctx m c b 0⟩, ⟨S128x64, ctx m c b 1⟩, ⟨S128x64, ctx m c b 2⟩, ⟨S128x64, ctx m c b 3⟩]
      concatenates_S128x64_S128x64_S128x64_S128x64_S128x256_d1) bitsLt_bf16_f32)
    (k0_pay10 (woM.view.readAt (Elt F) (Rect.unit (s := S256x512) ![0, 0] S256x512.size inb_S256x512_S256x512_0_0).toLoadRect (stgWo m c)))
    (constant S128x512 .f32 0x00000000#32)) shapeCasts_S128x512_S1x128x512

/-- The position inside a batch. -/
def inBatch (i : S2x128x512.Idx) : S1x128x512.Idx := fun | 0 => (0 : Fin 1) | 1 => (i 1 : Fin 128) | 2 => (i 2 : Fin 512)

/-- The result's staging buffer. -/
def outBuf (c : Dev nD) : (cc0_stg5_0 : Ref sig .tc).ty.Contents (Elt F) := fun (i : S2x128x512.Idx) => outV m c (i 0) (inBatch i)

theorem batch_cases (i : S2x128x512.Idx) : i 0 = (0 : Fin 2) ∨ i 0 = (1 : Fin 2) := by
  have := (i 0).isLt; change (i 0).val < 2 at this
  rcases Nat.lt_or_ge (i 0).val 1 with h | h
  · exact .inl (Fin.ext (by show (i 0).val = 0; omega))
  · exact .inr (Fin.ext (by show (i 0).val = 1; omega))

abbrev batchR (b : Fin 2) (h : ∀ a, (![b.val, 0, 0] : Fin 3 → ℕ) a + S1x128x512.size a ≤ S2x128x512.size a) : Rect S2x128x512 :=
  Rect.unit (s := S2x128x512) ![b, 0, 0] S1x128x512.size h

omit [Named F] in
/-- A store of one batch puts the new words in its box. -/
theorem write_batch_in (b : Fin 2) (h) (f : (cc0_stg5_0 : Ref sig .tc).ty.Contents (Elt F)) (w : FVec F S1x128x512 .f32) (i : S2x128x512.Idx)
    (h0 : i 0 = b) : (outM.access (batchR b h)).write (Elt F) f w Finset.univ i = w (inBatch i) := by
  have e : (outM.access (batchR b h)).emb (inBatch i) = i := by
    funext a
    refine Fin.ext ?_
    show ((batchR b h).emb (inBatch i) a).val = (i a).val
    rw [Rect.emb_apply]
    fin_cases a
    · show b.val + 1 * 0 = (i 0).val; rw [h0, Nat.mul_zero, Nat.add_zero]
    · show 0 + 1 * (i 1).val = (i 1).val; omega
    · show 0 + 1 * (i 2).val = (i 2).val; omega
  have hw := View.write_emb_of_mem (v := outM.access (batchR b h)) f w (Finset.mem_univ (inBatch i))
  rw [e] at hw
  exact hw.trans (cast_eq _ _)

omit [Named F] in
/-- And leaves the other batch as it was. -/
theorem write_batch_out (b : Fin 2) (h) (f : (cc0_stg5_0 : Ref sig .tc).ty.Contents (Elt F)) (w : FVec F S1x128x512 .f32) (i : S2x128x512.Idx)
    (hi : ¬ i 0 = b) : (outM.access (batchR b h)).write (Elt F) f w Finset.univ i = f i := by
  have hn : i ∉ (outM.access (batchR b h)).setOn Finset.univ := by
    intro hm
    apply hi
    obtain ⟨x, -, rfl⟩ := Finset.mem_map.mp hm
    have x0 : (x 0).val < 1 := (x 0).isLt
    refine Fin.ext ?_
    show ((batchR b h).emb x 0).val = _; rw [Rect.emb_apply]; show b.val + 1 * (x 0).val = b.val; omega
  exact View.write_of_not_mem (v := outM.access (batchR b h)) (Val := Elt F) f w Finset.univ hn

/-- The two stores of the result fill its staging buffer. -/
theorem out_written (c : Dev nD) (fo : (cc0_stg5_0 : Ref sig .tc).ty.Contents (Elt F)) (h0 h1) :
    (outM.access (batchR 1 h1)).write (Elt F) ((outM.access (batchR 0 h0)).write (Elt F) fo (outV m c 0) Finset.univ) (outV m c 1) Finset.univ
      = outBuf m c := by
  funext (i : S2x128x512.Idx)
  show _ = outV m c (i 0) (inBatch i)
  rcases batch_cases i with e | e
  · rw [write_batch_out 1 h1 _ _ i (fun h => absurd (congrArg Fin.val (e.symm.trans h)) (by show ¬ (0 : ℕ) = 1; decide)), write_batch_in 0 h0 _ _ i e, e]
  · rw [write_batch_in 1 h1 _ _ i e, e]

end Cert.Exchange
end
-- ==== Proof.Body.lean ====
/-
# The body, executed at a symbolic device
-/
module

public import proofs.«01_k».proof.Proof.Steps
public import proofs.«01_k».proof.Proof.Tile

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Fin 13 → ℕ)

omit [FloatOps F] [Named F] in
/-- The whole scratch is its eight pieces, one by one. -/
theorem scratch_pieces (d : Dev nD) (f : Buf (Elt F) ((d : Thread nD τ).loc cc0_scratch0)) :
    ((((d : Thread nD τ).loc cc0_scratch0) ↦{fullShare} f : sProp 𝕄))
      = iprop(slotPts d 0 0 fullShare f ∗ slotPts d 0 1 fullShare f ∗ slotPts d 1 0 fullShare f ∗ slotPts d 1 1 fullShare f
          ∗ slotPts d 2 0 fullShare f ∗ slotPts d 2 1 fullShare f ∗ slotPts d 3 0 fullShare f ∗ slotPts d 3 1 fullShare f) := by
  rw [scratch_split, bigSep_univ_eq_bigSepL [(0, 0), (0, 1), (1, 0), (1, 1), (2, 0), (2, 1), (3, 0), (3, 1)] (by decide) (by decide)]
  simp only [bigSepL_cons_cons, bigSepL_singleton]
  rfl

/-- Eight pieces, whatever they hold, are a whole scratch again. -/
theorem scratch_back (d : Dev nD) (f₀ : Buf (Elt F) ((d : Thread nD τ).loc cc0_scratch0)) :
    iprop((∃ f, slotPts d 0 0 fullShare f) ∗ (∃ f, slotPts d 0 1 fullShare f) ∗ (∃ f, slotPts d 1 0 fullShare f) ∗ (∃ f, slotPts d 1 1 fullShare f)
        ∗ (∃ f, slotPts d 2 0 fullShare f) ∗ (∃ f, slotPts d 2 1 fullShare f) ∗ (∃ f, slotPts d 3 0 fullShare f) ∗ (∃ f, slotPts d 3 1 fullShare f))
      ⊢ (iprop(∃ g, ((d : Thread nD τ).loc cc0_scratch0) ↦{fullShare} g) : sProp 𝕄) := by
  refine BIBase.Entails.trans (Entails.of_eq ?_) (scratch_join d f₀)
  rw [bigSep_univ_eq_bigSepL [(0, 0), (0, 1), (1, 0), (1, 1), (2, 0), (2, 1), (3, 0), (3, 1)] (by decide) (by decide)]
  simp only [bigSepL_cons_cons, bigSepL_singleton]
  rfl

omit [FloatOps F] [Named F] in
/-- A piece, held as the elements of the scratch's slice. -/
theorem slot_slice (d : Dev nD) {o kv : ℕ} (o' : Fin 4) (kv' : Fin 2) (ho : o'.val = o) (hkv : kv'.val = kv) (h : SlotInb o kv) (q : PosShare TreeShare) (f : Buf (Elt F) ((d : Thread nD τ).loc cc0_scratch0)) :
    (slotPts d o' kv' q f : sProp 𝕄)
      = ((gM.slice (Rect.unit (s := S4x2x2x128x256) ![o, kv, 0, 0, 0] S1x1x2x128x256.size h) (fun _ => rfl)).view.loc (d : Thread nD τ)
          ↦[(gM.slice (Rect.unit (s := S4x2x2x128x256) ![o, kv, 0, 0, 0] S1x1x2x128x256.size h) (fun _ => rfl)).view.set]{q} f) := by
  subst ho hkv
  unfold slotPts
  rw [show (slotM o' kv' (slotInb o' kv')).view.set = (gM.slice (Rect.unit (s := S4x2x2x128x256) ![o'.val, kv'.val, 0, 0, 0] S1x1x2x128x256.size h) (fun _ => rfl)).view.set
    from View.set_reshape _ _]

theorem swap_mid (A B C D : sProp 𝕄) : iprop((A ∗ B) ∗ C ∗ D) ⊢ iprop(A ∗ C ∗ B ∗ D) := by
  iintro ⟨⟨A, B⟩, C, D⟩
  isplitl [A]; · iexact A
  isplitl [C]; · iexact C
  isplitl [B]; · iexact B
  iexact D

theorem swap_mid' (A B C D : sProp 𝕄) : iprop(A ∗ C ∗ B ∗ D) ⊢ iprop((A ∗ B) ∗ C ∗ D) := by
  iintro ⟨A, C, B, D⟩
  isplitl [A B]
  · isplitl [A]; · iexact A
    iexact B
  isplitl [C]; · iexact C
  iexact D

/-- A piece of slot 0 is its four shares: the three transfers' and the device's own. -/
theorem slot_shares (c : Dev nD) (kv : Fin 2) :
    (slotPts c 0 kv fullShare (kvBuf m c) : sProp 𝕄)
      = iprop(slotPts c 0 kv (shareOf 0) (kvBuf m c) ∗ slotPts c 0 kv (shareOf 2) (kvBuf m c) ∗ slotPts c 0 kv (shareOf 1) (kvBuf m c)
          ∗ slotPts c 0 kv fullShare.right.right (kvBuf m c)) := by
  have half : ∀ q : PosShare TreeShare, (slotPts c 0 kv q (kvBuf m c) : sProp 𝕄) = iprop(slotPts c 0 kv q.left (kvBuf m c) ∗ slotPts c 0 kv q.right (kvBuf m c)) := fun q =>
    BI.Entails.antisymm (pointsTo_share (PosShare.mem_left_op_right q)).1 (pointsTo_share (PosShare.mem_left_op_right q)).2
  rw [half fullShare, half fullShare.left, half fullShare.right]
  exact BI.Entails.antisymm (swap_mid _ _ _ _) (swap_mid' _ _ _ _)

/-- Device `c`'s positions, and the tokens of the duties it pays. -/
def linear (c : Dev nD) : sProp 𝕄 :=
  iprop((atPos ER (barCell c) 0 ∅ 0
      ∗ atPos ER (sendCell 0 c) 0 ∅ 0 ∗ atPos ER (sendCell 1 c) 0 ∅ 0 ∗ atPos ER (sendCell 2 c) 0 ∅ 0
      ∗ atPos ER (sendCell 3 c) 0 ∅ 0 ∗ atPos ER (sendCell 4 c) 0 ∅ 0 ∗ atPos ER (sendCell 5 c) 0 ∅ 0
      ∗ atPos ER (recvCell 0 c) 0 ∅ 0 ∗ atPos ER (recvCell 1 c) 0 ∅ 0 ∗ atPos ER (recvCell 2 c) 0 ∅ 0
      ∗ atPos ER (recvCell 3 c) 0 ∅ 0 ∗ atPos ER (recvCell 4 c) 0 ∅ 0 ∗ atPos ER (recvCell 5 c) 0 ∅ 0)
    ∗ (dutyTok ER (barCell (peer 0 c)) 0 2 ∗ dutyTok ER (barCell (peer 1 c)) 0 1 ∗ dutyTok ER (barCell (peer 2 c)) 0 0)
    ∗ (dutyTok ER (sendCell 0 c) 0 0 ∗ dutyTok ER (sendCell 1 c) 0 0 ∗ dutyTok ER (sendCell 2 c) 0 0
      ∗ dutyTok ER (sendCell 3 c) 0 0 ∗ dutyTok ER (sendCell 4 c) 0 0 ∗ dutyTok ER (sendCell 5 c) 0 0)
    ∗ (dutyTok ER (recvCell 0 (peer 0 c)) 0 0 ∗ dutyTok ER (recvCell 1 (peer 1 c)) 0 0 ∗ dutyTok ER (recvCell 2 (peer 2 c)) 0 0
      ∗ dutyTok ER (recvCell 3 (peer 0 c)) 0 0 ∗ dutyTok ER (recvCell 4 (peer 1 c)) 0 0 ∗ dutyTok ER (recvCell 5 (peer 2 c)) 0 0))

/-- The credits the launch gives device `c`: its barrier's three units, its six receive cells' slots. -/
def credits (c : Dev nD) : sProp 𝕄 :=
  iprop(cred (tallyAt (barCell c) () 3)
    ∗ cred (tallyAt (recvCell 0 c) () N) ∗ cred (tallyAt (recvCell 1 c) () N) ∗ cred (tallyAt (recvCell 2 c) () N)
    ∗ cred (tallyAt (recvCell 3 c) () N) ∗ cred (tallyAt (recvCell 4 c) () N) ∗ cred (tallyAt (recvCell 5 c) () N))

/-- What the body leaves, the staging buffers apart: the scratch, and every semaphore at zero. -/
def exitRes (c : Dev nD) : sProp 𝕄 :=
  iprop((∃ f, ((c : Thread nD τ).loc cc0_scratch0) ↦{fullShare} f) ∗ semVal (barCell c) 0
    ∗ semVal (sendCell 0 c) 0 ∗ semVal (sendCell 1 c) 0 ∗ semVal (sendCell 2 c) 0 ∗ semVal (sendCell 3 c) 0 ∗ semVal (sendCell 4 c) 0 ∗ semVal (sendCell 5 c) 0
    ∗ semVal (recvCell 0 c) 0 ∗ semVal (recvCell 1 c) 0 ∗ semVal (recvCell 2 c) 0 ∗ semVal (recvCell 3 c) 0 ∗ semVal (recvCell 4 c) 0 ∗ semVal (recvCell 5 c) 0)

abbrev body0 : Prog (TpuEff nD τ sig (Elt F) Λ₀ .tc) PUnit :=
  cc0_body xM (Memref.isWhole_whole _) wqM (Memref.isWhole_whole _) kM (Memref.isWhole_whole _) vM (Memref.isWhole_whole _)
    woM (Memref.isWhole_whole _) outM (Memref.isWhole_whole _) gM (Memref.isWhole_whole _) cc0_scratch1 cc0_scratch2

set_option maxHeartbeats 4000000 in
theorem run_body (c : Dev nD) (W : Waits sig Unit) (Kt : PUnit → sProp 𝕄)
    (fo : Buf (Elt F) ((c : Thread nD τ).loc cc0_stg5_0)) :
    iprop(records m K ∗ linear c ∗ credits c ∗ levAts L lv ∗ (∃ f, ((c : Thread nD τ).loc cc0_scratch0) ↦{fullShare} f)
      ∗ owes (c : Thread nD τ) (O₀ c) W
      ∗ (xM.view.loc (c : Thread nD τ) ↦{fullShare} stgX m c) ∗ (wqM.view.loc (c : Thread nD τ) ↦{fullShare} stgWq m c)
      ∗ (kM.view.loc (c : Thread nD τ) ↦{fullShare} stgK m c) ∗ (vM.view.loc (c : Thread nD τ) ↦{fullShare} stgV m c)
      ∗ (woM.view.loc (c : Thread nD τ) ↦{fullShare} stgWo m c) ∗ (outM.view.loc (c : Thread nD τ) ↦{fullShare} fo)
      ∗ ((exitRes c ∗ (∃ W', owes (c : Thread nD τ) 0 W')
          ∗ (xM.view.loc (c : Thread nD τ) ↦{fullShare} stgX m c) ∗ (wqM.view.loc (c : Thread nD τ) ↦{fullShare} stgWq m c)
          ∗ (kM.view.loc (c : Thread nD τ) ↦{fullShare} stgK m c) ∗ (vM.view.loc (c : Thread nD τ) ↦{fullShare} stgV m c)
          ∗ (woM.view.loc (c : Thread nD τ) ↦{fullShare} stgWo m c) ∗ (outM.view.loc (c : Thread nD τ) ↦{fullShare} outBuf m c)) -∗ Kt ⟨⟩))
      ⊢ wp frame (wpE (defs₀ (F := F)) 𝒱₀ (c : Thread nD τ) none) Set.univ body0 Kt := by
  unfold body0
  rw [cc0_body_eq_skeleton]; unfold cc0_body_skel
  unfold linear credits
  iintro ⟨#HR, ⟨⟨HaB, HaS0, HaS1, HaS2, HaS3, HaS4, HaS5, HaR0, HaR1, HaR2, HaR3, HaR4, HaR5⟩, ⟨HtB0, HtB1, HtB2⟩,
    ⟨HtS0, HtS1, HtS2, HtS3, HtS4, HtS5⟩, ⟨HtR0, HtR1, HtR2, HtR3, HtR4, HtR5⟩⟩,
    ⟨HcB, HcR0, HcR1, HcR2, HcR3, HcR4, HcR5⟩, #Hlev, ⟨%f0, HG⟩, HO, HX, HWq, HK, HV, HWo, Hout, Hk⟩
  ihave ⟨P00, P01, P10, P11, P20, P21, P30, P31⟩ := (Entails.of_eq (scratch_pieces c f0)) $$ HG
  ihave P00 := (Entails.of_eq (slot_slice c 0 0 rfl rfl inb_S4x2x2x128x256_S1x1x2x128x256_0_0_0_0_0 fullShare f0)) $$ P00
  ihave P01 := (Entails.of_eq (slot_slice c 0 1 rfl rfl inb_S4x2x2x128x256_S1x1x2x128x256_0_1_0_0_0 fullShare f0)) $$ P01
  unfold O₀
  sl_exec
  iapply (wp_signal_bar m K c (peer 0 c) _ 2 (dev1_eq c) (peer_rev 2 c) _ _) $$ [HO HtB0 P30 P31]
  · isplitr; · iexact HR
    isplitl [HO]; · iexact HO
    isplitl [HtB0]; · iexact HtB0
    isplitl [P30]; · iexists f0; iexact P30
    iexists f0; iexact P31
  iintro HO
  sl_exec
  iapply (wp_signal_bar m K c (peer 1 c) _ 1 (dev2_eq c) (peer_rev 1 c) _ _) $$ [HO HtB1 P20 P21]
  · isplitr; · iexact HR
    isplitl [HO]; · iexact HO
    isplitl [HtB1]; · iexact HtB1
    isplitl [P20]; · iexists f0; iexact P20
    iexists f0; iexact P21
  iintro HO
  sl_exec
  iapply (wp_signal_bar m K c (peer 2 c) _ 0 (dev3_eq c) (peer_rev 0 c) _ _) $$ [HO HtB2 P10 P11]
  · isplitr; · iexact HR
    isplitl [HO]; · iexact HO
    isplitl [HtB2]; · iexact HtB2
    isplitl [P10]; · iexists f0; iexact P10
    iexists f0; iexact P11
  iintro HO
  sl_exec
  iapply (wp_wait_bar m K c _) $$ [HcB HO HaB]
  · isplitr; · iexact HR
    isplitr; · iexact Hlev
    isplitl [HcB]; · iexact HcB
    isplitl [HO]; · iexact HO
    iexact HaB
  iintro ⟨HO, ZB, B0, B1, B2⟩
  unfold barPay
  icases B0 with ⟨D10, D11⟩
  icases B1 with ⟨D20, D21⟩
  icases B2 with ⟨D30, D31⟩
  ihave P00 := (Entails.of_eq ((slot_slice c 0 0 rfl rfl inb_S4x2x2x128x256_S1x1x2x128x256_0_0_0_0_0 fullShare (run_body.sl.P00_w3 m c f0)).symm.trans
    (stored m c 0 fullShare inb_S4x2x2x128x256_S1x1x1x128x256_0_0_0_0_0 inb_S4x2x2x128x256_S1x1x1x128x256_0_0_1_0_0 f0))) $$ P00
  ihave P01 := (Entails.of_eq ((slot_slice c 0 1 rfl rfl inb_S4x2x2x128x256_S1x1x2x128x256_0_1_0_0_0 fullShare (run_body.sl.P01_w4 m c f0)).symm.trans
    (stored m c 1 fullShare inb_S4x2x2x128x256_S1x1x1x128x256_0_1_0_0_0 inb_S4x2x2x128x256_S1x1x1x128x256_0_1_1_0_0 f0))) $$ P01
  ihave ⟨S00, S02, S01, P00⟩ := (Entails.of_eq (slot_shares m c 0)) $$ P00
  ihave ⟨S10, S12, S11, P01⟩ := (Entails.of_eq (slot_shares m c 1)) $$ P01
  sl_exec
  unfold Osend
  iapply (wp_send m K c _ 1 0 1 rfl rfl (dev4_eq c) _ _) $$ [S01 D20 HO HtS1 HtR1]
  · isplitr; · iexact HR
    isplitl [S01]; · iexact S01
    isplitl [D20]; · iexact D20
    isplitl [HO]; · iexact HO
    isplitl [HtS1]; · iexact HtS1
    iexact HtR1
  iintro ⟨C1, HO⟩
  sl_exec
  iapply (wp_send m K c _ 0 0 0 rfl rfl (dev5_eq c) _ _) $$ [S00 D10 HO HtS0 HtR0]
  · isplitr; · iexact HR
    isplitl [S00]; · iexact S00
    isplitl [D10]; · iexact D10
    isplitl [HO]; · iexact HO
    isplitl [HtS0]; · iexact HtS0
    iexact HtR0
  iintro ⟨C0, HO⟩
  sl_exec
  iapply (wp_send m K c _ 2 0 2 rfl rfl (dev6_eq c) _ _) $$ [S02 D30 HO HtS2 HtR2]
  · isplitr; · iexact HR
    isplitl [S02]; · iexact S02
    isplitl [D30]; · iexact D30
    isplitl [HO]; · iexact HO
    isplitl [HtS2]; · iexact HtS2
    iexact HtR2
  iintro ⟨C2, HO⟩
  sl_exec
  iapply (wp_send m K c _ 1 1 4 rfl rfl (dev7_eq c) _ _) $$ [S11 D21 HO HtS4 HtR4]
  · isplitr; · iexact HR
    isplitl [S11]; · iexact S11
    isplitl [D21]; · iexact D21
    isplitl [HO]; · iexact HO
    isplitl [HtS4]; · iexact HtS4
    iexact HtR4
  iintro ⟨C4, HO⟩
  sl_exec
  iapply (wp_send m K c _ 0 1 3 rfl rfl (dev8_eq c) _ _) $$ [S10 D11 HO HtS3 HtR3]
  · isplitr; · iexact HR
    isplitl [S10]; · iexact S10
    isplitl [D11]; · iexact D11
    isplitl [HO]; · iexact HO
    isplitl [HtS3]; · iexact HtS3
    iexact HtR3
  iintro ⟨C3, HO⟩
  sl_exec
  iapply (wp_send m K c _ 2 1 5 rfl rfl (dev9_eq c) _ _) $$ [S12 D31 HO HtS5 HtR5]
  · isplitr; · iexact HR
    isplitl [S12]; · iexact S12
    isplitl [D31]; · iexact D31
    isplitl [HO]; · iexact HO
    isplitl [HtS5]; · iexact HtS5
    iexact HtR5
  iintro ⟨C5, HO⟩
  ihave P00 := (Entails.of_eq (slot_slice c 0 0 rfl rfl inb_S4x2x2x128x256_S1x1x2x128x256_0_0_0_0_0 fullShare.right.right (kvBuf m c))) $$ P00
  ihave P01 := (Entails.of_eq (slot_slice c 0 1 rfl rfl inb_S4x2x2x128x256_S1x1x2x128x256_0_1_0_0_0 fullShare.right.right (kvBuf m c))) $$ P01
  sl_exec
  iapply (wp_wait_recv m K c (peer 2 c) 0 0 rfl 0 rfl rfl _) $$ [HcR0 HO HaR0]
  · isplitr; · iexact HR
    isplitl [HcR0]; · iexact HcR0
    isplitl [HO]; · iexact HO
    iexact HaR0
  iintro ⟨HO, ZR0, L10⟩
  ihave L10 := (Entails.of_eq (slot_slice c (Fin.succ (0 : Fin 3)) 0 rfl rfl inb_S4x2x2x128x256_S1x1x2x128x256_1_0_0_0_0 fullShare (kvBuf m (peer 2 c)))) $$ L10
  sl_exec
  iapply (wp_wait_recv m K c (peer 0 c) 2 0 rfl 2 rfl rfl _) $$ [HcR2 HO HaR2]
  · isplitr; · iexact HR
    isplitl [HcR2]; · iexact HcR2
    isplitl [HO]; · iexact HO
    iexact HaR2
  iintro ⟨HO, ZR2, L30⟩
  ihave L30 := (Entails.of_eq (slot_slice c (Fin.succ (2 : Fin 3)) 0 rfl rfl inb_S4x2x2x128x256_S1x1x2x128x256_3_0_0_0_0 fullShare (kvBuf m (peer 0 c)))) $$ L30
  sl_exec
  iapply (wp_wait_recv m K c (peer 1 c) 1 0 rfl 1 rfl rfl _) $$ [HcR1 HO HaR1]
  · isplitr; · iexact HR
    isplitl [HcR1]; · iexact HcR1
    isplitl [HO]; · iexact HO
    iexact HaR1
  iintro ⟨HO, ZR1, L20⟩
  ihave L20 := (Entails.of_eq (slot_slice c (Fin.succ (1 : Fin 3)) 0 rfl rfl inb_S4x2x2x128x256_S1x1x2x128x256_2_0_0_0_0 fullShare (kvBuf m (peer 1 c)))) $$ L20
  sl_exec
  iapply (wp_wait_recv m K c (peer 2 c) 3 1 rfl 0 rfl rfl _) $$ [HcR3 HO HaR3]
  · isplitr; · iexact HR
    isplitl [HcR3]; · iexact HcR3
    isplitl [HO]; · iexact HO
    iexact HaR3
  iintro ⟨HO, ZR3, L11⟩
  ihave L11 := (Entails.of_eq (slot_slice c (Fin.succ (0 : Fin 3)) 1 rfl rfl inb_S4x2x2x128x256_S1x1x2x128x256_1_1_0_0_0 fullShare (kvBuf m (peer 2 c)))) $$ L11
  sl_exec
  iapply (wp_wait_recv m K c (peer 0 c) 5 1 rfl 2 rfl rfl _) $$ [HcR5 HO HaR5]
  · isplitr; · iexact HR
    isplitl [HcR5]; · iexact HcR5
    isplitl [HO]; · iexact HO
    iexact HaR5
  iintro ⟨HO, ZR5, L31⟩
  ihave L31 := (Entails.of_eq (slot_slice c (Fin.succ (2 : Fin 3)) 1 rfl rfl inb_S4x2x2x128x256_S1x1x2x128x256_3_1_0_0_0 fullShare (kvBuf m (peer 0 c)))) $$ L31
  sl_exec
  iapply (wp_wait_recv m K c (peer 1 c) 4 1 rfl 1 rfl rfl _) $$ [HcR4 HO HaR4]
  · isplitr; · iexact HR
    isplitl [HcR4]; · iexact HcR4
    isplitl [HO]; · iexact HO
    iexact HaR4
  iintro ⟨HO, ZR4, L21⟩
  ihave L21 := (Entails.of_eq (slot_slice c (Fin.succ (1 : Fin 3)) 1 rfl rfl inb_S4x2x2x128x256_S1x1x2x128x256_2_1_0_0_0 fullShare (kvBuf m (peer 1 c)))) $$ L21
  sl_exec
  iapply (wp_wait_send m K c 0 0 rfl 0 rfl _) $$ [C0 HO HaS0]
  · isplitr; · iexact HR
    isplitl [C0]; · iexact C0
    isplitl [HO]; · iexact HO
    iexact HaS0
  iintro ⟨HO, ZS0, S00⟩
  sl_exec
  iapply (wp_wait_send m K c 2 0 rfl 2 rfl _) $$ [C2 HO HaS2]
  · isplitr; · iexact HR
    isplitl [C2]; · iexact C2
    isplitl [HO]; · iexact HO
    iexact HaS2
  iintro ⟨HO, ZS2, S02⟩
  sl_exec
  iapply (wp_wait_send m K c 1 0 rfl 1 rfl _) $$ [C1 HO HaS1]
  · isplitr; · iexact HR
    isplitl [C1]; · iexact C1
    isplitl [HO]; · iexact HO
    iexact HaS1
  iintro ⟨HO, ZS1, S01⟩
  sl_exec
  iapply (wp_wait_send m K c 3 1 rfl 0 rfl _) $$ [C3 HO HaS3]
  · isplitr; · iexact HR
    isplitl [C3]; · iexact C3
    isplitl [HO]; · iexact HO
    iexact HaS3
  iintro ⟨HO, ZS3, S10⟩
  sl_exec
  iapply (wp_wait_send m K c 5 1 rfl 2 rfl _) $$ [C5 HO HaS5]
  · isplitr; · iexact HR
    isplitl [C5]; · iexact C5
    isplitl [HO]; · iexact HO
    iexact HaS5
  iintro ⟨HO, ZS5, S12⟩
  sl_exec
  iapply (wp_wait_send m K c 4 1 rfl 1 rfl _) $$ [C4 HO HaS4]
  · isplitr; · iexact HR
    isplitl [C4]; · iexact C4
    isplitl [HO]; · iexact HO
    iexact HaS4
  iintro ⟨HO, ZS4, S11⟩
  sl_exec
  ihave P00 := (Entails.of_eq (slot_slice c 0 0 rfl rfl inb_S4x2x2x128x256_S1x1x2x128x256_0_0_0_0_0 fullShare.right.right (kvBuf m c)).symm) $$ P00
  ihave P00 := (Entails.of_eq (slot_shares m c 0).symm) $$ [S00 S02 S01 P00]
  · isplitl [S00]; · iexact S00
    isplitl [S02]; · iexact S02
    isplitl [S01]; · iexact S01
    iexact P00
  ihave P01 := (Entails.of_eq (slot_slice c 0 1 rfl rfl inb_S4x2x2x128x256_S1x1x2x128x256_0_1_0_0_0 fullShare.right.right (kvBuf m c)).symm) $$ P01
  ihave P01 := (Entails.of_eq (slot_shares m c 1).symm) $$ [S10 S12 S11 P01]
  · isplitl [S10]; · iexact S10
    isplitl [S12]; · iexact S12
    isplitl [S11]; · iexact S11
    iexact P01
  ihave L10 := (Entails.of_eq (slot_slice c (Fin.succ (0 : Fin 3)) 0 rfl rfl inb_S4x2x2x128x256_S1x1x2x128x256_1_0_0_0_0 fullShare (kvBuf m (peer 2 c))).symm) $$ L10
  ihave L11 := (Entails.of_eq (slot_slice c (Fin.succ (0 : Fin 3)) 1 rfl rfl inb_S4x2x2x128x256_S1x1x2x128x256_1_1_0_0_0 fullShare (kvBuf m (peer 2 c))).symm) $$ L11
  ihave L20 := (Entails.of_eq (slot_slice c (Fin.succ (1 : Fin 3)) 0 rfl rfl inb_S4x2x2x128x256_S1x1x2x128x256_2_0_0_0_0 fullShare (kvBuf m (peer 1 c))).symm) $$ L20
  ihave L21 := (Entails.of_eq (slot_slice c (Fin.succ (1 : Fin 3)) 1 rfl rfl inb_S4x2x2x128x256_S1x1x2x128x256_2_1_0_0_0 fullShare (kvBuf m (peer 1 c))).symm) $$ L21
  ihave L30 := (Entails.of_eq (slot_slice c (Fin.succ (2 : Fin 3)) 0 rfl rfl inb_S4x2x2x128x256_S1x1x2x128x256_3_0_0_0_0 fullShare (kvBuf m (peer 0 c))).symm) $$ L30
  ihave L31 := (Entails.of_eq (slot_slice c (Fin.succ (2 : Fin 3)) 1 rfl rfl inb_S4x2x2x128x256_S1x1x2x128x256_3_1_0_0_0 fullShare (kvBuf m (peer 0 c))).symm) $$ L31
  have e1 : run_body.sl.v794 m c = outV m c 1 := rfl
  have e0 : run_body.sl.v780 m c = outV m c 0 := rfl
  have eo : outM.view.writes (Elt F) fo
      [⟨Rect.unit (s := S2x128x512) ![1, 0, 0] S1x128x512.size inb_S2x128x512_S1x128x512_1_0_0, run_body.sl.v794 m c⟩,
        ⟨Rect.unit (s := S2x128x512) ![0, 0, 0] S1x128x512.size inb_S2x128x512_S1x128x512_0_0_0, run_body.sl.v780 m c⟩] = outBuf m c := by
    rw [e1, e0, View.writes_cons, View.writes_cons, View.writes_nil]
    exact out_written m c fo inb_S2x128x512_S1x128x512_0_0_0 inb_S2x128x512_S1x128x512_1_0_0
  ihave Hout := (Entails.of_eq (congrArg (fun g => (outM.view.loc (c : Thread nD τ) ↦{fullShare} g : sProp 𝕄)) eo)) $$ Hout
  ihave HG := (scratch_back c f0) $$ [P00 P01 L10 L11 L20 L21 L30 L31]
  · isplitl [P00]; · iexists _; iexact P00
    isplitl [P01]; · iexists _; iexact P01
    isplitl [L10]; · iexists _; iexact L10
    isplitl [L11]; · iexists _; iexact L11
    isplitl [L20]; · iexists _; iexact L20
    isplitl [L21]; · iexists _; iexact L21
    isplitl [L30]; · iexists _; iexact L30
    iexists _; iexact L31
  rw [wp_ret]; imodintro
  iapply Hk
  unfold exitRes
  isplitl [HG ZB ZS0 ZS1 ZS2 ZS3 ZS4 ZS5 ZR0 ZR1 ZR2 ZR3 ZR4 ZR5]
  · isplitl [HG]; · iexact HG
    isplitl [ZB]; · iexact ZB
    isplitl [ZS0]; · iexact ZS0
    isplitl [ZS1]; · iexact ZS1
    isplitl [ZS2]; · iexact ZS2
    isplitl [ZS3]; · iexact ZS3
    isplitl [ZS4]; · iexact ZS4
    isplitl [ZS5]; · iexact ZS5
    isplitl [ZR0]; · iexact ZR0
    isplitl [ZR1]; · iexact ZR1
    isplitl [ZR2]; · iexact ZR2
    isplitl [ZR3]; · iexact ZR3
    isplitl [ZR4]; · iexact ZR4
    iexact ZR5
  isplitl [HO]; · iexists _; iexact HO
  isplitl [HX]; · iexact HX
  isplitl [HWq]; · iexact HWq
  isplitl [HK]; · iexact HK
  isplitl [HV]; · iexact HV
  isplitl [HWo]; · iexact HWo
  iexact Hout

end Cert.Exchange
end
-- ==== Proof.Launch.lean ====
/-
# The launch: every core's run, and what the memory holds at the end

The exchange's thirteen semaphores of each device become cells under one update over all devices. A device keeps its
positions, and of the duty tokens those it pays itself: its own send duties, and the barrier and receive duties of its
peers, carried to it by the bijections `ring o`. What all cores owe a cell is what its owner waits for. `run_main` is the
run of the whole mesh: the arguments stay, the result of device `c` is `outBuf m c`, every semaphore is back at zero.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Waiting on the staging semaphores -/

/-- What a device owes at launch is owed to barrier and receive cells. -/
theorem O₀_pos {c : Dev nD} {g : GSem nD τ sig} {u : Unit} (h : 0 < O₀ c g u) : (∃ d, g = barCell d) ∨ ∃ j d, g = recvCell j d := by
  unfold O₀ at h
  simp only [Pi.add_apply, Finsupp.add_apply, tallyAt_apply] at h
  by_contra hn
  push Not at hn
  rw [if_neg fun h' => hn.1 _ h'.1, if_neg fun h' => hn.1 _ h'.1, if_neg fun h' => hn.1 _ h'.1] at h
  obtain ⟨j, d, e⟩ := Osend_pos (c := c) (g := g) (u := u) h
  exact hn.2 j d e

omit [FloatOps F] [Named F] in
/-- A staging semaphore lies below everything a device may owe. -/
theorem mayWait_stage (c : Dev nD) (q : DmaSem sig) (hq : q.val < 12) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨j, d, rfl⟩ <;> exact Finset.mem_singleton_self _)
      (fun p hp => by
        rw [Finset.mem_singleton.mp hp]
        show (if q.val < 12 then 0 else 2) ≤ 0
        rw [if_pos hq])
      (fun g u hg => by
        rcases O₀_pos hg with ⟨d, rfl⟩ | ⟨j, d, rfl⟩
        · exact Nat.one_pos
        · show 0 < (if 12 + j.val < 12 then 0 else 2)
          rw [if_neg (by omega)]; decide)
  · rw [MayWait_zero]; iintro -; iempintro

/-! ## The pipeline's data -/

/-- What a device starts from, its scratch apart. -/
def start (c : Dev nD) : sProp 𝕄 := iprop((∃ K, records m K ∗ linear c) ∗ credits c ∗ levAts L lv)

def dats (_ : Fin 1) (c : Dev nD) : Dat τ (Elt F) Unit ℕ UU ℕ cfg0 c where
  A w := m ((cfg0.win w).arr.view.loc (c : Thread nD τ))
  after w _ := match w with
    | ⟨0, _⟩ => stgX m c
    | ⟨1, _⟩ => stgWq m c
    | ⟨2, _⟩ => stgK m c
    | ⟨3, _⟩ => stgV m c
    | ⟨4, _⟩ => stgWo m c
    | ⟨5, _⟩ => outBuf m c
  Φ t := match t with
    | ⟨0, _⟩ => iprop(start m c ∗ ∃ f, ((c : Thread nD τ).loc cc0_scratch0) ↦{fullShare} f)
    | ⟨_ + 1, _⟩ => exitRes c
  q _ := fullShare
  owed t := match t with
    | ⟨0, _⟩ => O₀ c
    | ⟨_ + 1, _⟩ => 0

/-- A whole buffer at contents `X`. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] [Named F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = holds c b X := by
  unfold owns; simp only [Memref.view_whole, View.read_whole, View.set_whole]

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

def pre (c : Dev nD) : sProp 𝕄 :=
  iprop((start m c ∗ ∃ f, ((c : Thread nD τ).loc cc0_scratch0) ↦{fullShare} f) ∗ (dats m 0 c).owesAt () t0_0.castSucc
    ∗ (∃ d, holds c cc0_stg0_0 ((dats m 0 c).before (0 : Fin 6) t0_0 d))
    ∗ (∃ d, holds c cc0_stg1_0 ((dats m 0 c).before (1 : Fin 6) t0_0 d))
    ∗ (∃ d, holds c cc0_stg2_0 ((dats m 0 c).before (2 : Fin 6) t0_0 d))
    ∗ (∃ d, holds c cc0_stg3_0 ((dats m 0 c).before (3 : Fin 6) t0_0 d))
    ∗ (∃ d, holds c cc0_stg4_0 ((dats m 0 c).before (4 : Fin 6) t0_0 d))
    ∗ (∃ d, holds c cc0_stg5_0 ((dats m 0 c).before (5 : Fin 6) t0_0 d)))

def post (c : Dev nD) : sProp 𝕄 :=
  iprop(exitRes c ∗ (dats m 0 c).owesAt () t0_0.succ ∗ holds c cc0_stg0_0 (stgX m c) ∗ holds c cc0_stg1_0 (stgWq m c)
    ∗ holds c cc0_stg2_0 (stgK m c) ∗ holds c cc0_stg3_0 (stgV m c) ∗ holds c cc0_stg4_0 (stgWo m c) ∗ holds c cc0_stg5_0 (outBuf m c))

set_option maxRecDepth 4000 in
/-- The body from the pipeline's precondition to its postcondition. -/
theorem body_runs (c : Dev nD) :
    pre m c ⊢ wp frame (wpE (defs₀ (F := F)) 𝒱₀ (c : Thread nD τ) none) Set.univ body0 (fun _ => post m c) := by
  unfold pre start
  iintro ⟨⟨⟨⟨%K, HR, HL⟩, Hc, Hlev⟩, HG⟩, Ho, ⟨%d0, %g0, %h0, HX⟩, ⟨%d1, %g1, %h1, HWq⟩, ⟨%d2, %g2, %h2, HK⟩, ⟨%d3, %g3, %h3, HV⟩,
    ⟨%d4, %g4, %h4, HWo⟩, ⟨%d5, %g5, %h5, Hout⟩⟩
  have e0 : g0 = stgX m c := by rw [h0]; unfold Dat.before; rw [if_pos (by rfl)]; rfl
  have e1 : g1 = stgWq m c := by rw [h1]; unfold Dat.before; rw [if_pos (by rfl)]; rfl
  have e2 : g2 = stgK m c := by rw [h2]; unfold Dat.before; rw [if_pos (by rfl)]; rfl
  have e3 : g3 = stgV m c := by rw [h3]; unfold Dat.before; rw [if_pos (by rfl)]; rfl
  have e4 : g4 = stgWo m c := by rw [h4]; unfold Dat.before; rw [if_pos (by rfl)]; rfl
  subst e0 e1 e2 e3 e4
  unfold Dat.owesAt Pipeline.owesWithin
  icases Ho with ⟨%W, %hW, HO⟩
  rw [show (dats m 0 c).owed t0_0.castSucc = O₀ c from rfl]
  iapply (run_body m K c W (fun _ => post m c) g5)
  isplitl [HR]; · iexact HR
  isplitl [HL]; · iexact HL
  isplitl [Hc]; · iexact Hc
  isplitl [Hlev]; · iexact Hlev
  isplitl [HG]; · iexact HG
  isplitl [HO]; · iexact HO
  isplitl [HX]; · iexact HX
  isplitl [HWq]; · iexact HWq
  isplitl [HK]; · iexact HK
  isplitl [HV]; · iexact HV
  isplitl [HWo]; · iexact HWo
  isplitl [Hout]; · iexact Hout
  iintro ⟨He, ⟨%W', HO⟩, HX, HWq, HK, HV, HWo, Hout⟩
  unfold post Dat.owesAt Pipeline.owesWithin
  rw [show (dats m 0 c).owed t0_0.succ = 0 from rfl]
  isplitl [He]; · iexact He
  isplitl [HO]
  · iexists W'; isplitr; · (ipureintro; exact fun _ _ => Or.inl trivial)
    iexact HO
  isplitl [HX]; · iexists _; isplitr; · (ipureintro; rfl)
                  iexact HX
  isplitl [HWq]; · iexists _; isplitr; · (ipureintro; rfl)
                   iexact HWq
  isplitl [HK]; · iexists _; isplitr; · (ipureintro; rfl)
                  iexact HK
  isplitl [HV]; · iexists _; isplitr; · (ipureintro; rfl)
                  iexact HV
  isplitl [HWo]; · iexists _; isplitr; · (ipureintro; rfl)
                   iexact HWo
  iexists _; isplitr; · (ipureintro; rfl)
  iexact Hout

set_option maxRecDepth 4000 in
theorem body_obligation (c : Dev nD) : BodyObligation (dats (F := F) m 0 c) (defs₀ (F := F)) 𝒱₀ () Set.univ := fun t => by
  rw [fin_N0 t]
  rw [bigSep_W, bigSep_W]
  simp only [owns_whole]
  exact body_runs m c

/-! ## Dealing the ghost state -/

/-- The kernel's own semaphores: the send and receive ones. -/
abbrev osem : Fin 12 → SemLoc sig := fun i => kloc i.succ

theorem ownSemFacts : Pipeline.OwnSemFacts cfg0.spec osem := by decide

theorem share_eq (c : Dev nD) (w : Fin cfg0.W) : (dats m 0 c).share w = fullShare := by unfold Dat.share; split <;> rfl

theorem kloc_injective : Function.Injective kloc := by decide

theorem kcell_injective : Function.Injective kcell := by
  rintro ⟨c, k⟩ ⟨c', k'⟩ h
  have h1 : c = c' := congrArg (fun g : GSem nD τ sig => g.1.1) h
  exact Prod.ext h1 (kloc_injective (congrArg Prod.snd h))

def cells : Finset (GSem nD τ sig) := Finset.univ.map ⟨kcell, kcell_injective⟩

/-- The fifteen duties of a device's cells: three of the barrier, one of every other. -/
def dutyAt : Fin 15 → Fin 13 × Fin 3
  | 0 => (0, 0) | 1 => (0, 1) | 2 => (0, 2)
  | ⟨i + 3, h⟩ => (⟨i + 1, by omega⟩, 0)

theorem dutyAt_injective : Function.Injective dutyAt := by decide

def tokOf (p : Dev nD × Fin 15) : GSem nD τ sig × ℕ × Fin 3 := (kcell (p.1, (dutyAt p.2).1), 0, (dutyAt p.2).2)

theorem tokOf_injective : Function.Injective tokOf := by
  rintro ⟨c, i⟩ ⟨c', i'⟩ h
  have h1 : kcell (c, (dutyAt i).1) = kcell (c', (dutyAt i').1) := congrArg (fun x : GSem nD τ sig × ℕ × Fin 3 => x.1) h
  have h2 : (dutyAt i).2 = (dutyAt i').2 := congrArg (fun x : GSem nD τ sig × ℕ × Fin 3 => x.2.2) h
  have h3 := kcell_injective h1
  exact Prod.ext (congrArg (fun p : Dev nD × Fin 13 => p.1) h3) (dutyAt_injective (Prod.ext (congrArg (fun p : Dev nD × Fin 13 => p.2) h3) h2))

def duties : Finset (GSem nD τ sig × ℕ × Fin 3) := Finset.univ.map ⟨tokOf, tokOf_injective⟩

def u₀ : UU := (initOf (Pipeline.cells cfgs cellOf_inj) (Pipeline.launchToks cfgs cellOf_inj), initOf cells duties)

/-- The tokens of a device's own cells. -/
def toks (c : Dev nD) : sProp 𝕄 := bigSep Finset.univ fun i : Fin 15 => dutyTok ER (kcell (c, (dutyAt i).1)) 0 (dutyAt i).2

def G (c : Dev nD) : sProp 𝕄 :=
  iprop((bigSep Finset.univ fun k : Fin 13 => roundState ER (sched m) (kcell (c, k)) 0)
    ∗ (bigSep Finset.univ fun k : Fin 13 => reached ER (kcell (c, k)) 0)
    ∗ (bigSep Finset.univ fun k : Fin 13 => atPos ER (kcell (c, k)) 0 ∅ 0) ∗ toks c)

def G' (c : Dev nD) : sProp 𝕄 := iprop(∃ K, records m K ∗ linear c)

omit [FloatOps F] [Named F] in
theorem bigSep_13 (Φ : Fin 13 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

omit [FloatOps F] [Named F] in
theorem bigSep_15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-- The launch element, dealt to the devices. -/
theorem fund_cells : BI.own (ER (initOf cells duties)) ⊢ (|==> bigSep Finset.univ (G m) : sProp 𝕄) := by
  have hX (Φ : GSem nD τ sig → sProp 𝕄) : bigSep cells Φ = bigSep Finset.univ fun c : Dev nD => bigSep Finset.univ fun k : Fin 13 => Φ (kcell (c, k)) := by
    unfold cells; rw [bigSep_map, bigSep_univ_prod]; rfl
  have hT : bigSep duties (fun x => (dutyTok ER x.1 x.2.1 x.2.2 : sProp 𝕄)) = bigSep Finset.univ fun c : Dev nD => toks c := by
    unfold duties; rw [bigSep_map, bigSep_univ_prod]; rfl
  iintro HX
  imod (Rounds.fund ER (sched m) cells duties) $$ HX with ⟨Hs, Hr, Ha, Ht⟩
  imodintro
  unfold G; simp only [bigSep_sep']
  isplitl [Hs]; · iapply (Entails.of_eq (hX fun g => roundState ER (sched m) g 0)); iexact Hs
  isplitl [Hr]; · iapply (Entails.of_eq (hX fun g => reached ER g 0)); iexact Hr
  isplitl [Ha]; · iapply (Entails.of_eq (hX fun g => atPos ER g 0 ∅ 0)); iexact Ha
  iapply (Entails.of_eq hT); iexact Ht

omit [FloatOps F] [Named F] in
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0 ∗ semVal (sendCell 3 c) 0 ∗ semVal (sendCell 4 c) 0 ∗ semVal (sendCell 5 c) 0
      ∗ semVal (recvCell 0 c) 0 ∗ semVal (recvCell 1 c) 0 ∗ semVal (recvCell 2 c) 0 ∗ semVal (recvCell 3 c) 0 ∗ semVal (recvCell 4 c) 0 ∗ semVal (recvCell 5 c) 0) := by
  rw [Pipeline.ownSems0_eq_of_list c osem [0, 1, 2, 3, 4, 5, 6, 7, 8, 9, 10, 11] (by decide) (by decide)]; rfl

omit [FloatOps F] [Named F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] [Named F] in
theorem sems_eq (c : Dev nD) :
    iprop(unscopedSems0 c ∗ Pipeline.ownSems0 (Ix := Unit) (Name := ℕ) (U := UU) (Lvl := ℕ) (Val := Elt F) (τ := τ) osem c)
      = (bigSep Finset.univ fun k : Fin 13 => semVal (kcell (c, k)) 0 : sProp 𝕄) := by
  rw [ownSems0_eq, unscopedSems0_eq, bigSep_13]; rfl

/-- One device's cells become invariants. -/
theorem cells_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => reached ER (kcell (c, k)) 0)
          ∗ (bigSep Finset.univ fun k => atPos ER (kcell (c, k)) 0 ∅ 0) ∗ toks c) := by
  unfold G
  iintro ⟨Hos, Hus, Hst, Hr, Ha, Ht⟩
  ihave Hv := (Entails.of_eq (sems_eq (F := F) c)) $$ [Hos Hus]
  · isplitl [Hus] <;> iassumption
  imod (show iprop((bigSep Finset.univ fun k : Fin 13 => semVal (kcell (c, k)) 0) ∗ bigSep Finset.univ fun k : Fin 13 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Ha]; · iexact Ha
  iexact Ht

/-- The tokens of the duties device `c` pays. -/
def payToks (c : Dev nD) : sProp 𝕄 :=
  iprop((dutyTok ER (barCell (peer 0 c)) 0 2 ∗ dutyTok ER (barCell (peer 1 c)) 0 1 ∗ dutyTok ER (barCell (peer 2 c)) 0 0)
    ∗ (dutyTok ER (sendCell 0 c) 0 0 ∗ dutyTok ER (sendCell 1 c) 0 0 ∗ dutyTok ER (sendCell 2 c) 0 0
      ∗ dutyTok ER (sendCell 3 c) 0 0 ∗ dutyTok ER (sendCell 4 c) 0 0 ∗ dutyTok ER (sendCell 5 c) 0 0)
    ∗ (dutyTok ER (recvCell 0 (peer 0 c)) 0 0 ∗ dutyTok ER (recvCell 1 (peer 1 c)) 0 0 ∗ dutyTok ER (recvCell 2 (peer 2 c)) 0 0
      ∗ dutyTok ER (recvCell 3 (peer 0 c)) 0 0 ∗ dutyTok ER (recvCell 4 (peer 1 c)) 0 0 ∗ dutyTok ER (recvCell 5 (peer 2 c)) 0 0))

omit [FloatOps F] [Named F] in
/-- A token of every device's cell goes to the device whose peer it is. -/
theorem carried (o : Fin 3) (Φ : Dev nD → sProp 𝕄) : bigSep Finset.univ Φ = bigSep Finset.univ fun c => Φ (peer o c) := bigSep_univ_equiv (ring o) Φ

omit [FloatOps F] [Named F] in
/-- The tokens go from the owners of the cells to those who pay. -/
theorem toks_around : (bigSep Finset.univ fun c : Dev nD => (toks c : sProp 𝕄)) ⊢ bigSep Finset.univ fun c : Dev nD => payToks c := by
  rw [show (fun c : Dev nD => (toks c : sProp 𝕄)) = fun c => iprop(dutyTok ER (barCell c) 0 0 ∗ dutyTok ER (barCell c) 0 1 ∗ dutyTok ER (barCell c) 0 2
      ∗ dutyTok ER (sendCell 0 c) 0 0 ∗ dutyTok ER (sendCell 1 c) 0 0 ∗ dutyTok ER (sendCell 2 c) 0 0
      ∗ dutyTok ER (sendCell 3 c) 0 0 ∗ dutyTok ER (sendCell 4 c) 0 0 ∗ dutyTok ER (sendCell 5 c) 0 0
      ∗ dutyTok ER (recvCell 0 c) 0 0 ∗ dutyTok ER (recvCell 1 c) 0 0 ∗ dutyTok ER (recvCell 2 c) 0 0
      ∗ dutyTok ER (recvCell 3 c) 0 0 ∗ dutyTok ER (recvCell 4 c) 0 0 ∗ dutyTok ER (recvCell 5 c) 0 0) from
    funext fun c => by unfold toks; rw [bigSep_15]; rfl]
  unfold payToks
  simp only [bigSep_sep']
  iintro ⟨B0, B1, B2, S0, S1, S2, S3, S4, S5, R0, R1, R2, R3, R4, R5⟩
  isplitl [B0 B1 B2]
  · isplitl [B2]; · iapply (Entails.of_eq (carried (F := F) 0 fun c => dutyTok ER (barCell c) 0 2)); iexact B2
    isplitl [B1]; · iapply (Entails.of_eq (carried (F := F) 1 fun c => dutyTok ER (barCell c) 0 1)); iexact B1
    iapply (Entails.of_eq (carried (F := F) 2 fun c => dutyTok ER (barCell c) 0 0)); iexact B0
  isplitl [S0 S1 S2 S3 S4 S5]
  · isplitl [S0]; · iexact S0
    isplitl [S1]; · iexact S1
    isplitl [S2]; · iexact S2
    isplitl [S3]; · iexact S3
    isplitl [S4] <;> iassumption
  isplitl [R0]; · iapply (Entails.of_eq (carried (F := F) 0 fun c => dutyTok ER (recvCell 0 c) 0 0)); iexact R0
  isplitl [R1]; · iapply (Entails.of_eq (carried (F := F) 1 fun c => dutyTok ER (recvCell 1 c) 0 0)); iexact R1
  isplitl [R2]; · iapply (Entails.of_eq (carried (F := F) 2 fun c => dutyTok ER (recvCell 2 c) 0 0)); iexact R2
  isplitl [R3]; · iapply (Entails.of_eq (carried (F := F) 0 fun c => dutyTok ER (recvCell 3 c) 0 0)); iexact R3
  isplitl [R4]; · iapply (Entails.of_eq (carried (F := F) 1 fun c => dutyTok ER (recvCell 4 c) 0 0)); iexact R4
  iapply (Entails.of_eq (carried (F := F) 2 fun c => dutyTok ER (recvCell 5 c) 0 0)); iexact R5

omit [FloatOps F] [Named F] in
theorem linear_eq (c : Dev nD) : (linear c : sProp 𝕄) = iprop((bigSep Finset.univ fun k => atPos ER (kcell (c, k)) 0 ∅ 0) ∗ payToks c) := by
  unfold linear payToks; rw [bigSep_13]; rfl

/-- Every device gets the records of all cells, under one choice of names. -/
theorem regroup :
    (bigSep Finset.univ fun c : Dev nD => iprop((bigSep Finset.univ fun k => iprop(∃ κ : ℕ, cellInv ER (sched m) κ (kcell (c, k))))
          ∗ (bigSep Finset.univ fun k => reached ER (kcell (c, k)) 0)
          ∗ (bigSep Finset.univ fun k => atPos ER (kcell (c, k)) 0 ∅ 0) ∗ toks c) : sProp 𝕄)
      ⊢ bigSep Finset.univ (G' m) := by
  rw [bigSep_sep', bigSep_sep', bigSep_sep', ← bigSep_univ_prod (fun p : Dev nD × Fin 13 => iprop(∃ κ : ℕ, cellInv ER (sched m) κ (kcell p))),
    ← bigSep_univ_prod (fun p : Dev nD × Fin 13 => (reached ER (kcell p) 0 : sProp 𝕄))]
  iintro ⟨HI, HR, Ha, Ht⟩
  ihave HK := (BI.bigSep_exists_pi Finset.univ (fun (p : Dev nD × Fin 13) (κ : ℕ) => (cellInv ER (sched m) κ (kcell p) : sProp 𝕄))) $$ HI
  icases HK with ⟨%K, HI⟩
  ihave Hall := (Entails.of_eq (bigSep_sep' Finset.univ (fun p : Dev nD × Fin 13 => (cellInv ER (sched m) (K p) (kcell p) : sProp 𝕄)) (fun p => reached ER (kcell p) 0)).symm) $$ [HI HR]
  · isplitl [HI] <;> iassumption
  ihave Ht' := (toks_around (F := F)) $$ Ht
  ihave Hl := (Entails.of_eq ((bigSep_sep' Finset.univ (fun c : Dev nD => bigSep Finset.univ fun k : Fin 13 => (atPos ER (kcell (c, k)) 0 ∅ 0 : sProp 𝕄)) payToks).symm.trans
    (bigSep_congr fun c _ => (linear_eq (F := F) c).symm))) $$ [Ha Ht']
  · isplitl [Ha] <;> iassumption
  ihave Hrec := (BI.bigSep_of_persistent (Finset.univ : Finset (Dev nD)) (records m K)) $$ [Hall]
  · unfold records; iexact Hall
  iapply ((Entails.of_eq (bigSep_sep' Finset.univ (fun _ : Dev nD => records m K) (fun c => linear c)).symm).trans
    (bigSep_mono fun c _ => show iprop(records m K ∗ linear c) ⊢ G' m c from by unfold G'; iintro H; iexists K; iexact H))
  isplitl [Hrec] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => cells_alloc m c).trans (bigSep_fupd _ _)).trans (BI.fupd_mono (regroup m))

/-! ## The launch credit -/

omit [FloatOps F] [Named F] in
/-- What everybody owes its peer `o` on one semaphore is the credit of each device's own. -/
theorem cred_peer (o : Fin 3) (sm : SemLoc sig) (n : ℕ) (c : Dev nD) :
    (Pipeline.launchCred (fun d => tallyAt ((peer o d : Thread nD τ), sm) () n) c : sProp 𝕄) ⊢ cred (tallyAt ((c : Thread nD τ), sm) () n) :=
  Pipeline.launchCred_tallyAt sm (peer o) (peer o.rev) (peer_rev o) (peer_rev' o) () n c

omit [FloatOps F] [Named F] in
theorem creds (c : Dev nD) : (Pipeline.launchCred O₀ c : sProp 𝕄) ⊢ credits c := by
  rw [show (O₀ : Dev nD → CellTallies nD τ sig Unit) = fun d =>
    (((((((((0 + tallyAt (recvCell 5 (peer 2 d)) () N) + tallyAt (recvCell 3 (peer 0 d)) () N) + tallyAt (recvCell 4 (peer 1 d)) () N)
      + tallyAt (recvCell 2 (peer 2 d)) () N) + tallyAt (recvCell 0 (peer 0 d)) () N) + tallyAt (recvCell 1 (peer 1 d)) () N)
      + tallyAt (barCell (peer 2 d)) () 1) + tallyAt (barCell (peer 1 d)) () 1) + tallyAt (barCell (peer 0 d)) () 1) from rfl]
  rw [Pipeline.launchCred_add, Pipeline.launchCred_add, Pipeline.launchCred_add, Pipeline.launchCred_add, Pipeline.launchCred_add, Pipeline.launchCred_add,
    Pipeline.launchCred_add, Pipeline.launchCred_add, Pipeline.launchCred_add]
  unfold credits
  rw [show (tallyAt (barCell c) () 3 : CellTallies nD τ sig Unit) = (tallyAt (barCell c) () 1 + tallyAt (barCell c) () 1) + tallyAt (barCell c) () 1 from by
    rw [tallyAt_add, tallyAt_add]]
  iintro ⟨⟨⟨⟨⟨⟨⟨⟨⟨-, R5⟩, R3⟩, R4⟩, R2⟩, R0⟩, R1⟩, B2⟩, B1⟩, B0⟩
  isplitl [B0 B1 B2]
  · iapply (cred_add _ _).2
    isplitl [B0 B1]
    · iapply (cred_add _ _).2
      isplitl [B0]; · iapply (cred_peer (F := F) 0 (.reg barS) 1 c); iexact B0
      iapply (cred_peer (F := F) 1 (.reg barS) 1 c); iexact B1
    iapply (cred_peer (F := F) 2 (.reg barS) 1 c); iexact B2
  isplitl [R0]; · iapply (cred_peer (F := F) 0 (.dma (recvS 0)) N c); iexact R0
  isplitl [R1]; · iapply (cred_peer (F := F) 1 (.dma (recvS 1)) N c); iexact R1
  isplitl [R2]; · iapply (cred_peer (F := F) 2 (.dma (recvS 2)) N c); iexact R2
  isplitl [R3]; · iapply (cred_peer (F := F) 0 (.dma (recvS 3)) N c); iexact R3
  isplitl [R4]; · iapply (cred_peer (F := F) 1 (.dma (recvS 4)) N c); iexact R4
  iapply (cred_peer (F := F) 2 (.dma (recvS 5)) N c); iexact R5

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ ∃ f, ((c : Thread nD τ).loc cc0_scratch0) ↦{fullShare} f) from rfl, scopedRest0_eq]
  iintro ⟨Hs, -, Hr⟩
  isplitl [Hs] <;> iassumption

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = exitRes c from rfl, scopedRest0_eq, ownSems0_eq, unscopedSems0_eq]
  unfold exitRes
  iintro ⟨Hr, HB, H⟩
  isplitl [HB]; · iexact HB
  isplitl [H] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

set_option maxRecDepth 8000 in
/-- From any memory with zero counters every weakly fair execution of the mesh terminates; at the end each device's
    arrays hold `finalA` and every semaphore is at zero. -/
theorem run_main : θ_run defs (onTc (τ := τ) (main (F := F))) (s₀ m ρ)
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange
end
-- ==== Proof.Frames.lean ====
/-
# What the run leaves, and the frames of the kernel and of its idealization

`kernel_run` reads the run of the mesh at the arguments and at the result. The kernel at its own float formats is the same
text as the idealization, the named mask being the constant it is printed from: its frame is the same run.
-/
module

public import proofs.«01_k».proof.Defs
public import proofs.«01_k».proof.Proof.Launch
public import proofs.«01_k».proof.Proof.Gen.Kernel

@[expose] public section

noncomputable section

namespace Cert.Exchange

open Cert.KernelIdeal Cert.KernelIdeal.Gen

open Idealize.ShloMosaic
open Idealize.ShloMosaic.TcCoe
open Idealize.SL.Sem

section Any

variable {F : FTy → Type} [FloatOps F] [Named F]
variable (m : (ℓ : Loc nD τ sig) → Buf (Elt F) ℓ) (ρ : Dev nD → PrngReg)

/-- The result array after the run. -/
theorem final_out (c : Dev nD) : (win0_5.blk (0 : Fin 1)).view.read (Elt F) (finalA m c (5 : Fin 6)) = outBuf m c := by
  unfold finalA
  rw [show cfg0.N = ((0 : Fin 1) : Fin cfg0.N).val + 1 from rfl, (dats m 0 c).arrAt_succ (5 : Fin 6) (0 : Fin 1)]
  rw [show (cfg0.win (5 : Fin 6)).flush (0 : Fin 1) = true from by decide, if_pos rfl]
  exact View.read_write_univ _ _

/-- Every execution ends with the arguments as they were, the result at `finalA`, every semaphore at zero. -/
theorem kernel_run : θ_run defs (onTc (τ := τ) (main (F := F))) ⟨m, fun _ => 0, ρ⟩ (fun r => (∀ c : Dev nD,
      r.2.mem ((c.tc : Thread nD τ).loc main_v1) = finalA m c (5 : Fin 6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨h.1 c (5 : Fin 6),
      (h.1 c (0 : Fin 6)).trans ((dats (F := F) m 0 c).arrAt_in (0 : Fin 6) rfl _),
      (h.1 c (1 : Fin 6)).trans ((dats (F := F) m 0 c).arrAt_in (1 : Fin 6) rfl _),
      (h.1 c (2 : Fin 6)).trans ((dats (F := F) m 0 c).arrAt_in (2 : Fin 6) rfl _),
      (h.1 c (3 : Fin 6)).trans ((dats (F := F) m 0 c).arrAt_in (3 : Fin 6) rfl _),
      (h.1 c (4 : Fin 6)).trans ((dats (F := F) m 0 c).arrAt_in (4 : Fin 6) rfl _)⟩, h.2⟩) (run_main m ρ)

/-- The frame alone. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (kernel_run m ρ)

end Any

theorem frame_ideal : Cert.quiescent_KernelIdeal := fun m ρ _ => kernel_frame m ρ

/-- At the hardware formats the named mask is the constant it is printed from. -/
instance namedBits : Named Bits where
  named _ _ bits := FloatOps.ofBits bits

/-- The two body tables run the same body. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l with
  | ⟨0, _⟩ => obtain ⟨t, s⟩ := a; rfl

theorem defs_eq : Cert.Kernel.defs (F := Bits) = Cert.KernelIdeal.defs (F := Bits) :=
  congrArg (Pipeline.defs (Cert.KernelIdeal.pcfgs (F := Bits))) bodies_eq

theorem frame_bits : Cert.quiescent_Kernel := fun m ρ _ => by
  have h := kernel_frame (F := Bits) m ρ
  rw [← defs_eq] at h
  exact h

end Cert.Exchange
end
-- ==== Proof.KernelValue.lean ====
/-
# What one device's result holds, entry by entry

Over the extended reals: the queries, the slots' keys and values, the masked exponentials, their sums, and the result, each
as a formula in the entries of the argument arrays.
-/
module

public import proofs.«01_k».proof.Proof.Frames
public import Idealize.ShloMosaic.Lib.Pointwise

@[expose] public section

set_option maxRecDepth 16384

noncomputable section

namespace Cert.Exchange

open Cert.KernelIdeal Cert.KernelIdeal.Gen

open Idealize.ShloMosaic
open Idealize.ShloMosaic.TcCoe

variable (m : (ℓ : Loc nD τ sig) → Buf (Elt Ideal) ℓ)

/-- The argument arrays of device `c`, entry by entry. -/
def xAt (c : Dev nD) (b : Fin 2) (r : Fin 128) (k : Fin 512) : EReal := m ((c : Thread nD τ).loc main_arg0) (ix3 b r k)
def wqAt (c : Dev nD) (k : Fin 512) (n : Fin 256) : EReal := m ((c : Thread nD τ).loc main_arg1) (ix2 k n)
def kAt (c : Dev nD) (b : Fin 2) (r : Fin 128) (h : Fin 4) (d : Fin 64) : EReal := m ((c : Thread nD τ).loc main_arg2) (ix4 b r h d)
def vAt (c : Dev nD) (b : Fin 2) (r : Fin 128) (h : Fin 4) (d : Fin 64) : EReal := m ((c : Thread nD τ).loc main_arg3) (ix4 b r h d)
def woAt (c : Dev nD) (j : Fin 256) (n : Fin 512) : EReal := m ((c : Thread nD τ).loc main_arg4) (ix2 j n)

/-- The staged blocks are the arrays themselves. -/
theorem stgX_at (c : Dev nD) (b : Fin 2) (r : Fin 128) (k : Fin 512) : stgX (F := Ideal) m c (ix3 b r k) = xAt m c b r k := by
  unfold stgX xAt
  refine (View.read_apply _ _).trans ((cast_eq _ _).trans (congrArg _ ?_))
  funext a; refine Fin.ext ?_
  change ((win0_0.rect (0 : Fin 1)).emb (ix3 b r k) a).val = _
  rw [Rect.emb_apply]
  fin_cases a
  · show 0 * 2 + 1 * b.val = b.val; omega
  · show 0 * 128 + 1 * r.val = r.val; omega
  · show 0 * 512 + 1 * k.val = k.val; omega

theorem stgWq_at (c : Dev nD) (k : Fin 512) (n : Fin 256) : stgWq (F := Ideal) m c (ix2 k n) = wqAt m c k n := by
  unfold stgWq wqAt
  refine (View.read_apply _ _).trans ((cast_eq _ _).trans (congrArg _ ?_))
  funext a; refine Fin.ext ?_
  change ((win0_1.rect (0 : Fin 1)).emb (ix2 k n) a).val = _
  rw [Rect.emb_apply]
  fin_cases a
  · show 0 * 512 + 1 * k.val = k.val; omega
  · show 0 * 256 + 1 * n.val = n.val; omega

theorem stgK_at (c : Dev nD) (b : Fin 2) (r : Fin 128) (h : Fin 4) (d : Fin 64) : stgK (F := Ideal) m c (ix4 b r h d) = kAt m c b r h d := by
  unfold stgK kAt
  refine (View.read_apply _ _).trans ((cast_eq _ _).trans (congrArg _ ?_))
  funext a; refine Fin.ext ?_
  change ((win0_2.rect (0 : Fin 1)).emb (ix4 b r h d) a).val = _
  rw [Rect.emb_apply]
  fin_cases a
  · show 0 * 2 + 1 * b.val = b.val; omega
  · show 0 * 128 + 1 * r.val = r.val; omega
  · show 0 * 4 + 1 * h.val = h.val; omega
  · show 0 * 64 + 1 * d.val = d.val; omega

theorem stgV_at (c : Dev nD) (b : Fin 2) (r : Fin 128) (h : Fin 4) (d : Fin 64) : stgV (F := Ideal) m c (ix4 b r h d) = vAt m c b r h d := by
  unfold stgV vAt
  refine (View.read_apply _ _).trans ((cast_eq _ _).trans (congrArg _ ?_))
  funext a; refine Fin.ext ?_
  change ((win0_3.rect (0 : Fin 1)).emb (ix4 b r h d) a).val = _
  rw [Rect.emb_apply]
  fin_cases a
  · show 0 * 2 + 1 * b.val = b.val; omega
  · show 0 * 128 + 1 * r.val = r.val; omega
  · show 0 * 4 + 1 * h.val = h.val; omega
  · show 0 * 64 + 1 * d.val = d.val; omega

theorem stgWo_at (c : Dev nD) (j : Fin 256) (n : Fin 512) : stgWo (F := Ideal) m c (ix2 j n) = woAt m c j n := by
  unfold stgWo woAt
  refine (View.read_apply _ _).trans ((cast_eq _ _).trans (congrArg _ ?_))
  funext a; refine Fin.ext ?_
  change ((win0_4.rect (0 : Fin 1)).emb (ix2 j n) a).val = _
  rw [Rect.emb_apply]
  fin_cases a
  · show 0 * 256 + 1 * j.val = j.val; omega
  · show 0 * 512 + 1 * n.val = n.val; omega

/-- What the body loads of the staged blocks. -/
theorem load_x (c : Dev nD) (b : Fin 2) (r : Fin 128) (k : Fin 512) :
    xM.view.readAt (Elt Ideal) (Rect.unit (s := S2x128x512) ![b.val, 0, 0] S1x128x512.size (batchInb b)).toLoadRect (stgX (F := Ideal) m c) (ix3 0 r k)
      = xAt m c b r k := by
  rw [← stgX_at]
  show stgX (F := Ideal) m c ((Rect.unit (s := S2x128x512) ![b.val, 0, 0] S1x128x512.size (batchInb b)).emb (ix3 0 r k)) = _
  congr 1
  funext a; refine Fin.ext ?_
  rw [Rect.emb_apply]
  fin_cases a
  · show b.val + 1 * 0 = b.val; omega
  · show 0 + 1 * r.val = r.val; omega
  · show 0 + 1 * k.val = k.val; omega

theorem load_wq (c : Dev nD) (k : Fin 512) (n : Fin 256) :
    wqM.view.readAt (Elt Ideal) (Rect.unit (s := S512x256) ![0, 0] S512x256.size inb_S512x256_S512x256_0_0).toLoadRect (stgWq (F := Ideal) m c) (ix2 k n)
      = wqAt m c k n := by
  rw [← stgWq_at]
  show stgWq (F := Ideal) m c ((Rect.unit (s := S512x256) ![0, 0] S512x256.size inb_S512x256_S512x256_0_0).emb (ix2 k n)) = _
  congr 1
  funext a; refine Fin.ext ?_
  rw [Rect.emb_apply]
  fin_cases a
  · show 0 + 1 * k.val = k.val; omega
  · show 0 + 1 * n.val = n.val; omega

theorem load_wo (c : Dev nD) (j : Fin 256) (n : Fin 512) :
    woM.view.readAt (Elt Ideal) (Rect.unit (s := S256x512) ![0, 0] S256x512.size inb_S256x512_S256x512_0_0).toLoadRect (stgWo (F := Ideal) m c) (ix2 j n)
      = woAt m c j n := by
  rw [← stgWo_at]
  show stgWo (F := Ideal) m c ((Rect.unit (s := S256x512) ![0, 0] S256x512.size inb_S256x512_S256x512_0_0).emb (ix2 j n)) = _
  congr 1
  funext a; refine Fin.ext ?_
  rw [Rect.emb_apply]
  fin_cases a
  · show 0 + 1 * j.val = j.val; omega
  · show 0 + 1 * n.val = n.val; omega

theorem load_k (c : Dev nD) (b : Fin 2) (inb : ∀ a, (![b.val, 0, 0, 0] : Fin 4 → ℕ) a + S1x128x4x64.size a ≤ S2x128x4x64.size a)
    (r : Fin 128) (h : Fin 4) (d : Fin 64) :
    kM.view.readAt (Elt Ideal) (Rect.unit (s := S2x128x4x64) ![b.val, 0, 0, 0] S1x128x4x64.size inb).toLoadRect (stgK (F := Ideal) m c) (ix4 0 r h d)
      = kAt m c b r h d := by
  rw [← stgK_at]
  show stgK (F := Ideal) m c ((Rect.unit (s := S2x128x4x64) ![b.val, 0, 0, 0] S1x128x4x64.size inb).emb (ix4 0 r h d)) = _
  congr 1
  funext a; refine Fin.ext ?_
  rw [Rect.emb_apply]
  fin_cases a
  · show b.val + 1 * 0 = b.val; omega
  · show 0 + 1 * r.val = r.val; omega
  · show 0 + 1 * h.val = h.val; omega
  · show 0 + 1 * d.val = d.val; omega

theorem load_v (c : Dev nD) (b : Fin 2) (inb : ∀ a, (![b.val, 0, 0, 0] : Fin 4 → ℕ) a + S1x128x4x64.size a ≤ S2x128x4x64.size a)
    (r : Fin 128) (h : Fin 4) (d : Fin 64) :
    vM.view.readAt (Elt Ideal) (Rect.unit (s := S2x128x4x64) ![b.val, 0, 0, 0] S1x128x4x64.size inb).toLoadRect (stgV (F := Ideal) m c) (ix4 0 r h d)
      = vAt m c b r h d := by
  rw [← stgV_at]
  show stgV (F := Ideal) m c ((Rect.unit (s := S2x128x4x64) ![b.val, 0, 0, 0] S1x128x4x64.size inb).emb (ix4 0 r h d)) = _
  congr 1
  funext a; refine Fin.ext ?_
  rw [Rect.emb_apply]
  fin_cases a
  · show b.val + 1 * 0 = b.val; omega
  · show 0 + 1 * r.val = r.val; omega
  · show 0 + 1 * h.val = h.val; omega
  · show 0 + 1 * d.val = d.val; omega

/-- One eighth. -/
def eighth : EReal := Ideal.ofBits .f32 0x3E000000#32

/-- The scaled queries. -/
theorem qv_at (c : Dev nD) (b : Fin 2) (r : Fin 128) (n : Fin 256) :
    qv (F := Ideal) m c b (ix2 r n) = (∑ k : Fin 512, xAt m c b r k * wqAt m c k n) * eighth := by
  simp only [← load_x, ← load_wq]
  unfold qv eighth
  pointwise [k0_pay11, k0_pay9]

/-- A position's block of 64, as the mask's text computes it. -/
theorem block_word : ∀ r : Fin 128, (Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 r.val) 64#32) 0#32))
        (IntOp.subi (IntOp.divsi ArithUnit.vector (BitVec.ofNat 32 r.val) 64#32) 1#32)
        (IntOp.divsi ArithUnit.vector (BitVec.ofNat 32 r.val) 64#32)) = BitVec.ofNat 32 (r.val / 64) := by decide

theorem slotMask_at (r s : Fin 128) : slotMask (ix2 r s) = if r.val / 64 = s.val / 64 then 1#1 else 0#1 := by
  unfold slotMask
  pointwise [k0_pay8, k0_pay6, k0_pay7]
  rw [block_word, block_word]
  have h : ∀ p q : Fin 2, IntOp.cmpi CmpIPredicate.eq (BitVec.ofNat 32 p.val) (BitVec.ofNat 32 q.val) = if p.val = q.val then 1#1 else 0#1 := by decide
  exact h ⟨r.val / 64, by omega⟩ ⟨s.val / 64, by omega⟩

/-- The exponentials: those of the scores inside the block, 0 elsewhere. -/
theorem probs_at (q k : FVec Ideal S128x64 .bf16) (r s : Fin 128) : probs (F := Ideal) q k (ix2 r s)
    = Ideal.exp (if r.val / 64 = s.val / 64 then ∑ d : Fin 64, q (ix2 r d) * k (ix2 s d) else ⊥) := by
  unfold probs
  pointwise
  rw [slotMask_at]
  split
  · rfl
  · rfl

theorem head_at (h : Fin 4) (v : FVec Ideal S128x256 .bf16) (r : Fin 128) (d : Fin 64) :
    head (F := Ideal) h v (ix2 r d) = v (ix2 r ⟨64 * h.val + d.val, by omega⟩) := by
  unfold head
  pointwise

theorem rowSum_at (e : FVec Ideal S128x128 .f32) (r : Fin 128) : rowSum (F := Ideal) e (ix2 r 0) = ∑ s : Fin 128, e (ix2 r s) := by
  unfold rowSum
  pointwise

theorem against_at (e : FVec Ideal S128x128 .f32) (v : FVec Ideal S128x64 .bf16) (r : Fin 128) (d : Fin 64) :
    against (F := Ideal) e v (ix2 r d) = ∑ s : Fin 128, e (ix2 r s) * v (ix2 s d) := by
  unfold against
  pointwise

theorem ctx_at (c : Dev nD) (b : Fin 2) (h : Fin 4) (r : Fin 128) (d : Fin 64) :
    ctx (F := Ideal) m c b h (ix2 r d) = Ideal.div (num (F := Ideal) m c b h (ix2 r d)) (den (F := Ideal) m c b h (ix2 r 0)) := by
  unfold ctx
  pointwise

/-- The result: the heads' contexts side by side, against the output weights. -/
theorem outV_at (c : Dev nD) (b : Fin 2) (r : Fin 128) (n : Fin 512) :
    outV (F := Ideal) m c b (ix3 0 r n)
      = ∑ j : Fin 256, ctx (F := Ideal) m c b ⟨j.val / 64, by omega⟩ (ix2 r ⟨j.val % 64, by omega⟩) * woAt m c j n := by
  simp only [← load_wo]
  unfold outV
  pointwise [k0_pay10]
  refine Finset.sum_congr rfl fun j _ => congrArg (· * _) ?_
  have hj : ∀ (h : Fin 4) (x y : Fin 64), j.val / 64 = h.val → x.val = j.val % 64 → ctx (F := Ideal) m c b h (ix2 r x)
      = ctx (F := Ideal) m c b ⟨j.val / 64, by omega⟩ (ix2 r ⟨j.val % 64, by omega⟩) := by
    intro h x _ e1 e2
    rw [show h = ⟨j.val / 64, by omega⟩ from Fin.ext e1.symm, show x = ⟨j.val % 64, by omega⟩ from Fin.ext e2]
  split
  · exact hj 0 _ 0 (by show _ = 0; omega) (by show j.val = _; omega)
  · split
    · exact hj 1 _ 0 (by show _ = 1; omega) (by show j.val - 64 = _; omega)
    · split
      · exact hj 2 _ 0 (by show _ = 2; omega) (by show j.val - 64 - 64 = _; omega)
      · exact hj 3 _ 0 (by show _ = 3; omega) (by show j.val - 64 - 64 - 64 = _; omega)

/-- One stored slab, entry by entry: heads side by side. -/
theorem pay1_at (v : FVec Ideal S1x128x4x64 .bf16) (r : Fin 128) (h : Fin 4) (d : Fin 64) :
    k0_pay1 (F := Ideal) v (ix5 0 0 0 r ⟨64 * h.val + d.val, by omega⟩) = v (ix4 0 r h d) := by
  pointwise [k0_pay1]

theorem slab_k (c : Dev nD) (b : Fin 2) (r : Fin 128) (h : Fin 4) (d : Fin 64) :
    slab (F := Ideal) m c 0 b (ix5 0 0 0 r ⟨64 * h.val + d.val, by omega⟩) = kAt m c b r h d := by
  match b with
  | 0 =>
    rw [show slab (F := Ideal) m c 0 0 = k0_pay1 (kM.view.readAt (Elt Ideal)
      (Rect.unit (s := S2x128x4x64) ![0, 0, 0, 0] S1x128x4x64.size inb_S2x128x4x64_S1x128x4x64_0_0_0_0).toLoadRect (stgK m c)) from rfl, pay1_at]
    exact load_k m c 0 inb_S2x128x4x64_S1x128x4x64_0_0_0_0 r h d
  | 1 =>
    rw [show slab (F := Ideal) m c 0 1 = k0_pay1 (kM.view.readAt (Elt Ideal)
      (Rect.unit (s := S2x128x4x64) ![1, 0, 0, 0] S1x128x4x64.size inb_S2x128x4x64_S1x128x4x64_1_0_0_0).toLoadRect (stgK m c)) from rfl, pay1_at]
    exact load_k m c 1 inb_S2x128x4x64_S1x128x4x64_1_0_0_0 r h d

theorem slab_v (c : Dev nD) (b : Fin 2) (r : Fin 128) (h : Fin 4) (d : Fin 64) :
    slab (F := Ideal) m c 1 b (ix5 0 0 0 r ⟨64 * h.val + d.val, by omega⟩) = vAt m c b r h d := by
  match b with
  | 0 =>
    rw [show slab (F := Ideal) m c 1 0 = k0_pay1 (vM.view.readAt (Elt Ideal)
      (Rect.unit (s := S2x128x4x64) ![0, 0, 0, 0] S1x128x4x64.size inb_S2x128x4x64_S1x128x4x64_0_0_0_0).toLoadRect (stgV m c)) from rfl, pay1_at]
    exact load_v m c 0 inb_S2x128x4x64_S1x128x4x64_0_0_0_0 r h d
  | 1 =>
    rw [show slab (F := Ideal) m c 1 1 = k0_pay1 (vM.view.readAt (Elt Ideal)
      (Rect.unit (s := S2x128x4x64) ![1, 0, 0, 0] S1x128x4x64.size inb_S2x128x4x64_S1x128x4x64_1_0_0_0).toLoadRect (stgV m c)) from rfl, pay1_at]
    exact load_v m c 1 inb_S2x128x4x64_S1x128x4x64_1_0_0_0 r h d

theorem cast_at (v : FVec Ideal S1x1x1x128x256 .bf16) (r : Fin 128) (n : Fin 256) :
    shapeCast S128x256 v shapeCasts_S1x1x1x128x256_S128x256 (ix2 r n) = v (ix5 0 0 0 r n) := by
  pointwise

/-- A head's keys and values in a slot are those of the slot's device. -/
theorem keys_at (c : Dev nD) (b : Fin 2) (s h : Fin 4) (t : Fin 128) (d : Fin 64) :
    head (F := Ideal) h (kvAt (F := Ideal) m c 0 b s) (ix2 t d) = kAt m (srcOf c s) b t h d := by
  rw [head_at]
  unfold kvAt
  rw [load_slab]
  exact (cast_at _ t _).trans (slab_k m _ b t h d)

theorem vals_at (c : Dev nD) (b : Fin 2) (s h : Fin 4) (t : Fin 128) (d : Fin 64) :
    head (F := Ideal) h (kvAt (F := Ideal) m c 1 b s) (ix2 t d) = vAt m (srcOf c s) b t h d := by
  rw [head_at]
  unfold kvAt
  rw [load_slab]
  exact (cast_at _ t _).trans (slab_v m _ b t h d)

/-- The score of device `c`'s query row `r` against key row `t` of device `p`. -/
def scoreK (c : Dev nD) (b : Fin 2) (h : Fin 4) (r : Fin 128) (p : Dev nD) (t : Fin 128) : EReal :=
  ∑ d : Fin 64, ((∑ k : Fin 512, xAt m c b r k * wqAt m c k ⟨64 * h.val + d.val, by omega⟩) * eighth) * kAt m p b t h d

/-- The masked exponential at key row `t` of device `p`. -/
def expK (c : Dev nD) (b : Fin 2) (h : Fin 4) (r : Fin 128) (p : Dev nD) (t : Fin 128) : EReal :=
  Ideal.exp (if r.val / 64 = t.val / 64 then scoreK m c b h r p t else ⊥)

theorem ex_at (c : Dev nD) (b : Fin 2) (h s : Fin 4) (r t : Fin 128) :
    ex (F := Ideal) m c b h s (ix2 r t) = expK m c b h r (srcOf c s) t := by
  unfold ex expK scoreK
  rw [probs_at]
  simp only [keys_at]
  simp only [head_at, qv_at]

theorem den_at (c : Dev nD) (b : Fin 2) (h : Fin 4) (r : Fin 128) :
    den (F := Ideal) m c b h (ix2 r 0) = ∑ s : Fin 4, ∑ t : Fin 128, expK m c b h r (srcOf c s) t := by
  have e : ∀ s, rowSum (F := Ideal) (ex m c b h s) (ix2 r 0) = ∑ t : Fin 128, expK m c b h r (srcOf c s) t := fun s => by
    rw [rowSum_at]; simp only [ex_at]
  unfold den
  show ((rowSum (F := Ideal) (ex m c b h 0) (ix2 r 0) + rowSum (F := Ideal) (ex m c b h 1) (ix2 r 0) : EReal)
    + rowSum (F := Ideal) (ex m c b h 3) (ix2 r 0) : EReal) + rowSum (F := Ideal) (ex m c b h 2) (ix2 r 0) = _
  simp only [e]
  rw [Fin.sum_univ_four, add_right_comm]

theorem num_at (c : Dev nD) (b : Fin 2) (h : Fin 4) (r : Fin 128) (d : Fin 64) :
    num (F := Ideal) m c b h (ix2 r d) = ∑ s : Fin 4, ∑ t : Fin 128, expK m c b h r (srcOf c s) t * vAt m (srcOf c s) b t h d := by
  have e : ∀ s, against (F := Ideal) (ex m c b h s) (head h (kvAt (F := Ideal) m c 1 b s)) (ix2 r d)
      = ∑ t : Fin 128, expK m c b h r (srcOf c s) t * vAt m (srcOf c s) b t h d := fun s => by
    rw [against_at]; simp only [ex_at, vals_at]
  unfold num
  show ((against (F := Ideal) (ex m c b h 0) (head h (kvAt (F := Ideal) m c 1 b 0)) (ix2 r d)
    + against (F := Ideal) (ex m c b h 1) (head h (kvAt (F := Ideal) m c 1 b 1)) (ix2 r d) : EReal)
    + against (F := Ideal) (ex m c b h 3) (head h (kvAt (F := Ideal) m c 1 b 3)) (ix2 r d) : EReal)
    + against (F := Ideal) (ex m c b h 2) (head h (kvAt (F := Ideal) m c 1 b 2)) (ix2 r d) = _
  simp only [e]
  rw [Fin.sum_univ_four, add_right_comm]

/-- One entry of the kernel's result. -/
theorem out_at (c : Dev nD) (b : Fin 2) (r : Fin 128) (n : Fin 512) :
    outBuf (F := Ideal) m c (ix3 b r n)
      = ∑ j : Fin 256, ctx (F := Ideal) m c b ⟨j.val / 64, by omega⟩ (ix2 r ⟨j.val % 64, by omega⟩) * woAt m c j n := by
  rw [← outV_at]
  show outV (F := Ideal) m c b (inBatch (ix3 b r n)) = _
  congr 1
  funext a
  fin_cases a <;> rfl

/-- The result array after the run is the staging buffer's contents. -/
theorem final_at (c : Dev nD) : (finalA (F := Ideal) m c (5 : Fin 6) : S2x128x512.Idx → EReal) = outBuf (F := Ideal) m c := by
  rw [← final_out]
  funext (i : S2x128x512.Idx)
  refine Eq.symm ((View.read_apply _ _).trans ((cast_eq _ _).trans (congrArg _ ?_)))
  funext a; refine Fin.ext ?_
  change ((win0_5.rect (0 : Fin 1)).emb i a).val = _
  rw [Rect.emb_apply]
  fin_cases a
  · show 0 * 2 + 1 * (i 0).val = (i 0).val; omega
  · show 0 * 128 + 1 * (i 1).val = (i 1).val; omega
  · show 0 * 512 + 1 * (i 2).val = (i 2).val; omega

end Cert.Exchange
end
-- ==== Proof.Softmax.lean ====
/-
# A row of masked scores: shifted and unshifted softmax agree

Over the extended reals. A row has live positions, whose scores are real, and dead ones, whose score is `-∞`. Subtracting
the row's largest score before the exponentials changes nothing in the quotient, and dividing the sum against the values
is summing against the divided weights: the normalizer is a positive real.
-/
module

public import Idealize.ShloMosaic.Lib.Pointwise

@[expose] public section

noncomputable section

namespace Cert.Exchange

open Idealize.ShloMosaic

variable {ι : Type} [Fintype ι] [DecidableEq ι] (live : ι → Prop) [DecidablePred live] (a : ι → ℝ)

/-- The row's masked scores. -/
def scores (j : ι) : EReal := if live j then (a j : EReal) else ⊥

/-- The exponentials of the live scores, 0 elsewhere. -/
def expR (j : ι) : ℝ := if live j then Real.exp (a j) else 0

theorem expR_nonneg (j : ι) : 0 ≤ expR live a j := by
  unfold expR; split
  · exact (Real.exp_pos _).le
  · exact le_rfl

theorem coe_sum (f : ι → ℝ) : ((∑ j, f j : ℝ) : EReal) = ∑ j, (f j : EReal) :=
  map_sum (⟨⟨Real.toEReal, EReal.coe_zero⟩, EReal.coe_add⟩ : ℝ →+ EReal) f Finset.univ

theorem exp_scores (j : ι) : Ideal.exp (scores live a j) = (expR live a j : EReal) := by
  unfold scores expR; split
  · exact Ideal.exp_coe _
  · exact Ideal.exp_bot

/-- The largest score of a row with a live position is real. -/
theorem max_real (j₀ : ι) (h₀ : live j₀) : ∃ M : ℝ, Finset.univ.sup (scores live a) = (M : EReal) := by
  obtain ⟨j, -, hj⟩ := Finset.exists_mem_eq_sup Finset.univ ⟨j₀, Finset.mem_univ _⟩ (scores live a)
  rw [hj]
  by_cases h : live j
  · exact ⟨a j, if_pos h⟩
  · exfalso
    have h1 : scores live a j₀ ≤ scores live a j := hj ▸ Finset.le_sup (Finset.mem_univ j₀)
    rw [scores, scores, if_pos h₀, if_neg h] at h1
    exact absurd (le_bot_iff.mp h1) (EReal.coe_ne_bot _)

theorem exp_shift (M : ℝ) (j : ι) : Ideal.exp (scores live a j - (M : EReal)) = ((expR live a j * Real.exp (-M) : ℝ) : EReal) := by
  unfold scores expR; split
  · rw [← EReal.coe_sub, Ideal.exp_coe, sub_eq_add_neg, Real.exp_add]
  · rw [zero_mul, EReal.bot_sub, Ideal.exp_bot]; rfl

theorem sum_expR_pos (j₀ : ι) (h₀ : live j₀) : 0 < ∑ j, expR live a j :=
  Finset.sum_pos' (fun j _ => expR_nonneg live a j) ⟨j₀, Finset.mem_univ _, by unfold expR; rw [if_pos h₀]; exact Real.exp_pos _⟩

/-- A sum against values, times a real factor that is not negative, is the sum against the scaled weights. -/
theorem sum_mul_real (w : ι → ℝ) (v : ι → EReal) (t : ℝ) (ht : 0 ≤ t) :
    (∑ j, (w j : EReal) * v j) * (t : EReal) = ∑ j, v j * ((w j * t : ℝ) : EReal) := by
  have key : ∀ s : Finset ι, (∑ j ∈ s, (w j : EReal) * v j) * (t : EReal) = ∑ j ∈ s, v j * ((w j * t : ℝ) : EReal) := by
    intro s
    induction s using Finset.induction_on with
    | empty => simp
    | insert x s hx ih =>
      rw [Finset.sum_insert hx, Finset.sum_insert hx, EReal.right_distrib_of_nonneg_of_ne_top (by exact_mod_cast ht) (EReal.coe_ne_top _), ih,
        EReal.coe_mul, mul_comm (w x : EReal) (v x), mul_assoc]
  exact key Finset.univ

/-- The quotient of the unshifted sums is the sum of the values against the shifted softmax. -/
theorem softmax_eq (j₀ : ι) (h₀ : live j₀) (v : ι → EReal) :
    Ideal.div (∑ j, Ideal.exp (scores live a j) * v j) (∑ j, Ideal.exp (scores live a j))
      = ∑ j, v j * Ideal.div (Ideal.exp (scores live a j - Finset.univ.sup (scores live a)))
          (∑ k, Ideal.exp (scores live a k - Finset.univ.sup (scores live a))) := by
  obtain ⟨M, hM⟩ := max_real live a j₀ h₀
  have hD := sum_expR_pos live a j₀ h₀
  have hE := Real.exp_pos (-M)
  simp only [hM, exp_shift, exp_scores, ← coe_sum]
  rw [← Finset.sum_mul, Ideal.div_coe hD.ne', sum_mul_real _ _ _ (by positivity)]
  refine Finset.sum_congr rfl fun j _ => congrArg _ ?_
  rw [Ideal.div_coe (mul_pos hD hE).ne', ← EReal.coe_mul]
  refine congrArg _ ?_
  field_simp

/-- The sum of the shifted exponentials is not 0 (it is a positive real). -/
theorem shifted_sum_pos (j₀ : ι) (h₀ : live j₀) : 0 < ∑ k, Ideal.exp (scores live a k - Finset.univ.sup (scores live a)) := by
  obtain ⟨M, hM⟩ := max_real live a j₀ h₀
  simp only [hM, exp_shift, ← coe_sum, ← Finset.sum_mul]
  exact_mod_cast mul_pos (sum_expR_pos live a j₀ h₀) (Real.exp_pos (-M))

/-- A dot product of real rows, one of them scaled, is the scaled dot product. -/
theorem scaled_dot (x y : ι → ℝ) (t : ℝ) : ∑ d, ((x d : EReal) * (t : EReal)) * (y d : EReal) = (∑ d, (x d : EReal) * (y d : EReal)) * (t : EReal) := by
  simp only [← EReal.coe_mul, ← coe_sum]
  rw [Finset.sum_mul]
  exact congrArg _ (Finset.sum_congr rfl fun d _ => by ring)

end Cert.Exchange
end
-- ==== Proof.ReferenceValue.lean ====
/-
# What the reference computes, entry by entry

The reference's run ends with one long term of the arguments. Here it is cut into its lines (blocks of 64, the mask,
scores, row maxima, exponentials, weights, result), and each line is read at an entry, over the extended reals.
-/
module

public import proofs.«01_k».proof.Proof.Softmax
public import proofs.«01_k».proof.Proof.Gen.ReferenceIdeal.Run
public import Idealize.ShloMosaic.Lib.Pointwise
public import Idealize.ShloMosaic.Lib.Routing.Words
public import Idealize.ShloMosaic.Lib.Routing.OpsOrder

@[expose] public section

set_option maxRecDepth 16384

noncomputable section

namespace Cert.Plain

open Cert.ReferenceIdeal Cert.ReferenceIdeal.Gen Cert.Exchange

open Idealize.ShloMosaic
open Idealize.ShloMosaic.TcCoe

/-! ## The lines -/

/-- The block of 64 of each position. -/
def blk : IVec S1024 32 := Routing.pyDiv bcast_S_S1024 (iotaInDim S1024 32 0) (id (constantI S_ 32 64#32))

/-- The same, modulo 4, as a row and as a column. -/
def remRow : IVec S1x1024 32 := Routing.pyRem bcast_S_S1x1024 (broadcastInDim S1x1024 ![1] bcast_S1024_S1x1024_1 blk) (id (constantI S_ 32 4#32))
def remCol : IVec S1024x1 32 := Routing.pyRem bcast_S_S1024x1 (broadcastInDim S1024x1 ![0] bcast_S1024_S1024x1_0 blk) (id (constantI S_ 32 4#32))

/-- The mask. -/
def lives : IVec S1024x1024 1 :=
  ori (cmpi .eq (broadcastInDim S1024x1024 ![0, 1] bcast_S1024x1_S1024x1024_0_1 (broadcastInDim S1024x1 ![0] bcast_S1024_S1024x1_0 blk))
      (broadcastInDim S1024x1024 ![0, 1] bcast_S1x1024_S1024x1024_0_1 (broadcastInDim S1x1024 ![1] bcast_S1024_S1x1024_1 blk)))
    (cmpi .eq (broadcastInDim S1024x1024 ![0, 1] bcast_S1x1024_S1024x1024_0_1 remRow)
      (broadcastInDim S1024x1024 ![0, 1] bcast_S1024x1_S1024x1024_0_1 remCol))

/-- The rows that keep a key. -/
def anyLive : IVec S1024 1 := Host.reduce IntOp.ori lives (constantI S_ 1 0#1) reducesTo_S1024x1024_S1024_d1 h_S_

variable {F : FTy → Type} [FloatOps F]
variable (x : FVec F S2x1024x512 .bf16) (wq : FVec F S512x256 .bf16) (k : FVec F S2x1024x4x64 .bf16) (v : FVec F S2x1024x4x64 .bf16)
  (wo : FVec F S256x512 .bf16)

/-- The queries. -/
def queries : FVec F S2x1024x4x64 .bf16 :=
  shapeCast _ (truncf .bf16 (Host.dotGeneral dot_S2x1024x512_S512x256_S2x1024x256_2_0_01_1_n_n none x wq) bitsLt_bf16_f32) shapeCasts_S2x1024x256_S2x1024x4x64

/-- The masked scores. -/
def masked : FVec F S2x4x1024x1024 .f32 :=
  select (broadcastInDim S2x4x1024x1024 ![0, 1, 2, 3] bcast_S1x1x1024x1024_S2x4x1024x1024_0_1_2_3
      (broadcastInDim S1x1x1024x1024 ![2, 3] bcast_S1024x1024_S1x1x1024x1024_2_3 lives))
    (mulf (extf .f32 (truncf .bf16 (Host.dotGeneral dot_S2x1024x4x64_S2x1024x4x64_S2x4x1024x1024_3_3_1_1_02_02 none (queries x wq) k) bitsLt_bf16_f32) bitsLt_bf16_f32)
      (broadcastInDim S2x4x1024x1024 ![] bcast_S_S2x4x1024x1024 (constant S_ .f32 0x3E000000#32)))
    (broadcastInDim S2x4x1024x1024 ![] bcast_S_S2x4x1024x1024 (id (constant S_ .f32 0xFF800000#32)))

/-- The rows' largest scores. -/
def largest : FVec F S2x4x1024 .f32 := Host.reduce FloatOps.maximumf (masked x wq k) (constant S_ .f32 0xFF800000#32) reducesTo_S2x4x1024x1024_S2x4x1024_d3 h_S_

/-- The shifted exponentials. -/
def expd : FVec F S2x4x1024x1024 .f32 :=
  Host.exp (subf (masked x wq k) (broadcastInDim S2x4x1024x1024 ![0, 1, 2, 3] bcast_S2x4x1024x1_S2x4x1024x1024_0_1_2_3
    (broadcastInDim S2x4x1024x1 ![0, 1, 2] bcast_S2x4x1024_S2x4x1024x1_0_1_2 (largest x wq k))))

/-- The normalizers. -/
def normz : FVec F S2x4x1024x1 .f32 :=
  select (broadcastInDim S2x4x1024x1 ![0, 1, 2, 3] bcast_S1x1x1024x1_S2x4x1024x1_0_1_2_3 (broadcastInDim S1x1x1024x1 ![2] bcast_S1024_S1x1x1024x1_2 anyLive))
    (broadcastInDim S2x4x1024x1 ![0, 1, 2] bcast_S2x4x1024_S2x4x1024x1_0_1_2
      (Host.reduceAdd (expd x wq k) (constant S_ .f32 0x00000000#32) reducesTo_S2x4x1024x1024_S2x4x1024_d3 h_S_))
    (broadcastInDim S2x4x1024x1 ![] bcast_S_S2x4x1024x1 (id (constant S_ .f32 0x3F800000#32)))

/-- The weights. -/
def weights : FVec F S2x4x1024x1024 .f32 :=
  select (broadcastInDim S2x4x1024x1024 ![0, 1, 2, 3] bcast_S1x1x1024x1_S2x4x1024x1024_0_1_2_3 (broadcastInDim S1x1x1024x1 ![2] bcast_S1024_S1x1x1024x1_2 anyLive))
    (Host.divf (expd x wq k) (broadcastInDim S2x4x1024x1024 ![0, 1, 2, 3] bcast_S2x4x1024x1_S2x4x1024x1024_0_1_2_3 (normz x wq k)))
    (broadcastInDim S2x4x1024x1024 ![] bcast_S_S2x4x1024x1024 (id (constant S_ .f32 0x00000000#32)))

/-- The contexts, head by head. -/
def context : FVec F S2x4x64x1024 .f32 :=
  Host.dotGeneral dot_S2x1024x4x64_S2x4x1024x1024_S2x4x64x1024_1_3_3_2_02_01 none (extf .f32 v bitsLt_bf16_f32) (weights x wq k)

/-- The result. -/
def result : FVec F S2x1024x512 .f32 :=
  Host.dotGeneral dot_S2x1024x256_S256x512_S2x1024x512_2_0_01_1_n_n none
    (shapeCast _ (transpose S2x1024x4x64 [0, 3, 1, 2] (context x wq k v) transposes_S2x4x64x1024_S2x1024x4x64_0_3_1_2) shapeCasts_S2x1024x4x64_S2x1024x256)
    (extf .f32 wo bitsLt_bf16_f32)

/-- The run's term is these lines. -/
theorem run_result (m : (ℓ : Loc nD τ sig) → Buf (Elt F) ℓ) (c : Dev nD) :
    (Value.res_out0 m c : FVec F S2x1024x512 .f32) = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- The reference's mask value is `-∞`. -/
theorem negInf_bits : Ideal.ofBits .f32 0xFF800000#32 = ⊥ := by simp [Ideal.ofBits, Ideal.ieee]

/-! ## The mask -/

theorem blk_at (j : Fin 1024) : blk (ix1 j) = BitVec.ofNat 32 (j.val / 64) :=
  Routing.pyDiv_ap bcast_S_S1024 _ _ _ rfl rfl (by omega) (by decide) (by decide)

theorem remRow_at (j : Fin 1024) : remRow (ix2 0 j) = BitVec.ofNat 32 (j.val / 64 % 4) := by
  refine Routing.pyRem_ap bcast_S_S1x1024 _ _ _ (a := j.val / 64) (b := 4) ?_ rfl (by omega) (by decide) (by decide)
  rw [← blk_at]
  pointwise

theorem remCol_at (j : Fin 1024) : remCol (ix2 j 0) = BitVec.ofNat 32 (j.val / 64 % 4) := by
  refine Routing.pyRem_ap bcast_S_S1024x1 _ _ _ (a := j.val / 64) (b := 4) ?_ rfl (by omega) (by decide) (by decide)
  rw [← blk_at]
  pointwise

/-- Position `j` is kept in row `i`: one block, or blocks that agree modulo 4. -/
def Kept (i j : Fin 1024) : Prop := i.val / 64 = j.val / 64 ∨ j.val / 64 % 4 = i.val / 64 % 4

instance (i j : Fin 1024) : Decidable (Kept i j) := by unfold Kept; infer_instance

theorem lives_at (i j : Fin 1024) : lives (ix2 i j) = if Kept i j then 1#1 else 0#1 := by
  unfold lives
  pointwise [blk_at, remRow_at, remCol_at]
  have h : ∀ p q : Fin 16, IntOp.cmpi CmpIPredicate.eq (BitVec.ofNat 32 p.val) (BitVec.ofNat 32 q.val) = if p.val = q.val then 1#1 else 0#1 := by decide
  have h1 := h ⟨i.val / 64, by omega⟩ ⟨j.val / 64, by omega⟩
  have h2 := h ⟨j.val / 64 % 4, by omega⟩ ⟨i.val / 64 % 4, by omega⟩
  simp only at h1 h2
  rw [h1, h2]
  by_cases e1 : i.val / 64 = j.val / 64
  · rw [if_pos e1, if_pos (show Kept i j from Or.inl e1)]
    split <;> rfl
  · rw [if_neg e1]
    by_cases e2 : j.val / 64 % 4 = i.val / 64 % 4
    · rw [if_pos e2, if_pos (show Kept i j from Or.inr e2)]; rfl
    · rw [if_neg e2, if_neg (show ¬ Kept i j from not_or.mpr ⟨e1, e2⟩)]; rfl

theorem anyLive_at (i : Fin 1024) : anyLive (ix1 i) = 1#1 := by
  unfold anyLive
  pointwise
  rw [Routing.fold_ori]
  exact ⟨i, Finset.mem_univ _, by rw [lives_at, if_pos (show Kept i i from Or.inl rfl)]⟩

variable (x : FVec Ideal S2x1024x512 .bf16) (wq : FVec Ideal S512x256 .bf16) (k : FVec Ideal S2x1024x4x64 .bf16)
  (v : FVec Ideal S2x1024x4x64 .bf16) (wo : FVec Ideal S256x512 .bf16)

theorem queries_at (b : Fin 2) (i : Fin 1024) (h : Fin 4) (d : Fin 64) :
    queries (F := Ideal) x wq (ix4 b i h d) = ∑ n : Fin 512, (x (ix3 b i n) * wq (ix2 n ⟨64 * h.val + d.val, by omega⟩) : EReal) := by
  unfold queries
  pointwise
  simp only [Nat.mul_comm h.val 64]

/-- The unmasked score. -/
def scoreR (b : Fin 2) (h : Fin 4) (i j : Fin 1024) : EReal :=
  (∑ d : Fin 64, (queries (F := Ideal) x wq (ix4 b i h d) * k (ix4 b j h d) : EReal)) * Ideal.ofBits .f32 0x3E000000#32

theorem masked_at (b : Fin 2) (h : Fin 4) (i j : Fin 1024) :
    masked (F := Ideal) x wq k (ix4 b h i j) = if Kept i j then scoreR x wq k b h i j else ⊥ := by
  unfold masked scoreR
  pointwise [lives_at]
  split
  · rfl
  · exact negInf_bits

theorem largest_at (b : Fin 2) (h : Fin 4) (i : Fin 1024) :
    largest (F := Ideal) x wq k (ix3 b h i) = Finset.univ.sup fun j : Fin 1024 => masked (F := Ideal) x wq k (ix4 b h i j) := by
  unfold largest
  pointwise
  rw [negInf_bits]
  rfl

theorem expd_at (b : Fin 2) (h : Fin 4) (i j : Fin 1024) :
    expd (F := Ideal) x wq k (ix4 b h i j)
      = Ideal.exp (masked (F := Ideal) x wq k (ix4 b h i j) - largest (F := Ideal) x wq k (ix3 b h i)) := by
  unfold expd
  pointwise

theorem normz_at (b : Fin 2) (h : Fin 4) (i : Fin 1024) :
    normz (F := Ideal) x wq k (ix4 b h i 0) = ∑ j : Fin 1024, expd (F := Ideal) x wq k (ix4 b h i j) := by
  unfold normz
  pointwise [anyLive_at]

theorem weights_at (b : Fin 2) (h : Fin 4) (i j : Fin 1024) :
    weights (F := Ideal) x wq k (ix4 b h i j) = Ideal.div (expd (F := Ideal) x wq k (ix4 b h i j)) (normz (F := Ideal) x wq k (ix4 b h i 0)) := by
  unfold weights
  pointwise [anyLive_at]

theorem context_at (b : Fin 2) (h : Fin 4) (d : Fin 64) (i : Fin 1024) :
    context (F := Ideal) x wq k v (ix4 b h d i) = ∑ j : Fin 1024, (v (ix4 b j h d) * weights (F := Ideal) x wq k (ix4 b h i j) : EReal) := by
  unfold context
  pointwise

theorem result_at (b : Fin 2) (i : Fin 1024) (n : Fin 512) :
    result (F := Ideal) x wq k v wo (ix3 b i n)
      = ∑ j : Fin 256, (context (F := Ideal) x wq k v (ix4 b ⟨j.val / 64, by omega⟩ ⟨j.val % 64, by omega⟩ i) * wo (ix2 j n) : EReal) := by
  unfold result
  pointwise

end Cert.Plain
end
-- ==== Proof.Value.lean ====
/-
# The two programs compute one result

Device `c`'s row `r` is row `128 c + r` of the whole. A row keeps the keys whose block of 64 has its own block's number
modulo 4, and device `p` holds blocks `2 p` and `2 p + 1`: so the kept keys of a row on device `c` lie on the four devices
of `c`'s parity, which are the four slots, and inside a slot they are those in the half the row itself is in.
-/
module

public import proofs.«01_k».proof.Proof.KernelValue
public import proofs.«01_k».proof.Proof.ReferenceValue

@[expose] public section

set_option maxRecDepth 16384

noncomputable section

namespace Cert.Exchange

open Cert.KernelIdeal Cert.KernelIdeal.Gen Cert.Plain

open Idealize.ShloMosaic
open Idealize.ShloMosaic.TcCoe

/-- Row `t` of device `p` in the whole. -/
def row (p : Dev nD) (t : Fin 128) : Fin 1024 := ⟨p.val * 128 + t.val, by have := p.isLt; change p.val < 8 at this; omega⟩

theorem row_split (j : Fin 1024) : ∃ (p : Dev nD) (t : Fin 128), j = row p t :=
  ⟨⟨j.val / 128, by show _ < 8; omega⟩, ⟨j.val % 128, by omega⟩, Fin.ext (by show j.val = j.val / 128 * 128 + j.val % 128; omega)⟩

/-- The slots' devices are the four of one's own parity. -/
theorem srcOf_inj : ∀ (c : Dev nD) (s s' : Fin 4), srcOf c s = srcOf c s' → s = s' := by decide
theorem srcOf_parity : ∀ (c : Dev nD) (s : Fin 4), (srcOf c s).val % 2 = c.val % 2 := by decide
theorem srcOf_onto : ∀ (c p : Dev nD), (¬ ∃ s, srcOf c s = p) → ¬ p.val % 2 = c.val % 2 := by decide

theorem kept_iff (c p : Dev nD) (r t : Fin 128) : Kept (row c r) (row p t) ↔ p.val % 2 = c.val % 2 ∧ r.val / 64 = t.val / 64 := by
  unfold Kept row
  simp only
  have := c.isLt; have := p.isLt
  omega

/-- A sum over all keys whose terms off one's parity are 0 is a sum over the slots. -/
theorem sum_slots (c : Dev nD) (f : Fin 1024 → EReal) (hf : ∀ (p : Dev nD) (t : Fin 128), ¬ p.val % 2 = c.val % 2 → f (row p t) = 0) :
    ∑ j, f j = ∑ s : Fin 4, ∑ t : Fin 128, f (row (srcOf c s) t) := by
  have e1 : ∑ j, f j = ∑ p : Dev nD, ∑ t : Fin 128, f (row p t) := by
    rw [← Fintype.sum_prod_type']
    refine (Fintype.sum_bijective (fun q : Dev nD × Fin 128 => row q.1 q.2) ⟨?_, ?_⟩ _ _ fun _ => rfl).symm
    · rintro ⟨p, t⟩ ⟨p', t'⟩ h
      have h' : p.val * 128 + t.val = p'.val * 128 + t'.val := congrArg Fin.val h
      exact Prod.ext (Fin.ext (by show p.val = p'.val; omega)) (Fin.ext (by show t.val = t'.val; omega))
    · intro j
      obtain ⟨p, t, h⟩ := row_split j
      exact ⟨(p, t), h.symm⟩
  rw [e1, ← Finset.sum_image (s := Finset.univ) (g := srcOf c) (f := fun p => ∑ t : Fin 128, f (row p t)) fun s _ s' _ h => srcOf_inj c s s' h]
  refine (Finset.sum_subset (Finset.subset_univ _) fun p _ hp => ?_).symm
  refine Finset.sum_eq_zero fun t _ => hf p t (srcOf_onto c p ?_)
  rintro ⟨s, hs⟩
  exact hp (Finset.mem_image.mpr ⟨s, Finset.mem_univ _, hs⟩)

theorem eighth_real : ∃ e : ℝ, eighth = (e : EReal) := by
  unfold eighth
  simp only [Ideal.ofBits, Ideal.ieee]
  simp
  exact ⟨_, (EReal.coe_mul _ _).symm⟩

variable (m : (ℓ : Loc nD τ sig) → Buf (Elt Ideal) ℓ)
variable (x : FVec Ideal ReferenceIdeal.S2x1024x512 .bf16) (wq : FVec Ideal ReferenceIdeal.S512x256 .bf16) (k : FVec Ideal ReferenceIdeal.S2x1024x4x64 .bf16)
  (v : FVec Ideal ReferenceIdeal.S2x1024x4x64 .bf16) (wo : FVec Ideal ReferenceIdeal.S256x512 .bf16)

/-- The devices hold their rows of the whole arrays. -/
structure Shares : Prop where
  hx : ∀ c b r n, xAt m c b r n = x (ix3 b (row c r) n)
  hwq : ∀ c n j, wqAt m c n j = wq (ix2 n j)
  hk : ∀ c b t h d, kAt m c b t h d = k (ix4 b (row c t) h d)
  hv : ∀ c b t h d, vAt m c b t h d = v (ix4 b (row c t) h d)
  hwo : ∀ c j n, woAt m c j n = wo (ix2 j n)

/-- The entries that the scores are made of are real. -/
structure Real3 : Prop where
  x : ∀ c b r n, ∃ y : ℝ, xAt m c b r n = (y : EReal)
  wq : ∀ c n j, ∃ y : ℝ, wqAt m c n j = (y : EReal)
  k : ∀ c b t h d, ∃ y : ℝ, kAt m c b t h d = (y : EReal)

variable {m x wq k v wo}

/-- The reference's score is real, and the kernel's is the same one. -/
theorem scores_agree (S : Shares m x wq k v wo) (R : Real3 m) (c p : Dev nD) (b : Fin 2) (h : Fin 4) (r t : Fin 128) :
    (∃ y : ℝ, scoreR x wq k b h (row c r) (row p t) = (y : EReal)) ∧ scoreK m c b h r p t = scoreR x wq k b h (row c r) (row p t) := by
  obtain ⟨e, he⟩ := eighth_real
  have hq : ∀ d : Fin 64, ∃ y : ℝ, (∑ n : Fin 512, xAt m c b r n * wqAt m c n ⟨64 * h.val + d.val, by omega⟩) = (y : EReal) := by
    intro d
    choose xr hxr using R.x c b r
    choose wr hwr using fun n => R.wq c n ⟨64 * h.val + d.val, by omega⟩
    refine ⟨∑ n, xr n * wr n, ?_⟩
    rw [coe_sum]
    exact Finset.sum_congr rfl fun n _ => by rw [hxr, hwr, EReal.coe_mul]
  choose q hq using hq
  choose kr hkr using R.k p b t h
  have e1 : scoreK m c b h r p t = (∑ d, (q d : EReal) * (kr d : EReal)) * (e : EReal) := by
    unfold scoreK
    simp only [hq, hkr, he]
    exact scaled_dot q kr e
  have e2 : scoreR x wq k b h (row c r) (row p t) = (∑ d, (q d : EReal) * (kr d : EReal)) * (e : EReal) := by
    unfold scoreR
    rw [← he]
    refine congrArg₂ (· * ·) (Finset.sum_congr rfl fun d _ => ?_) rfl
    rw [queries_at, ← hq d, ← hkr d, S.hk]
    exact congrArg (· * _) (Finset.sum_congr rfl fun n _ => by rw [S.hx, S.hwq])
  refine ⟨⟨(∑ d, q d * kr d) * e, ?_⟩, e1.trans e2.symm⟩
  rw [e2, EReal.coe_mul, coe_sum]
  simp only [EReal.coe_mul]

/-- One head's context in one row. -/
theorem context_agrees (S : Shares m x wq k v wo) (R : Real3 m) (c : Dev nD) (b : Fin 2) (h : Fin 4) (r : Fin 128) (d : Fin 64) :
    ctx (F := Ideal) m c b h (ix2 r d) = context (F := Ideal) x wq k v (ix4 b h d (row c r)) := by
  have ha : ∀ j : Fin 1024, ∃ y : ℝ, scoreR x wq k b h (row c r) j = (y : EReal) := by
    intro j
    obtain ⟨p, t, rfl⟩ := row_split j
    exact (scores_agree S R c p b h r t).1
  choose a ha using ha
  have hm : ∀ j, masked (F := Ideal) x wq k (ix4 b h (row c r) j) = scores (Kept (row c r)) a j := by
    intro j; rw [masked_at, ha]; rfl
  have hE : ∀ s t, expK m c b h r (srcOf c s) t = Ideal.exp (scores (Kept (row c r)) a (row (srcOf c s) t)) := by
    intro s t
    unfold expK scores
    rw [(scores_agree S R c (srcOf c s) b h r t).2, ha]
    have hk := kept_iff c (srcOf c s) r t
    by_cases e : r.val / 64 = t.val / 64
    · rw [if_pos e, if_pos (hk.mpr ⟨srcOf_parity c s, e⟩)]
    · rw [if_neg e, if_neg fun q => e (hk.mp q).2]
  have hz : ∀ (p : Dev nD) (t : Fin 128), ¬ p.val % 2 = c.val % 2 → Ideal.exp (scores (Kept (row c r)) a (row p t)) = 0 := by
    intro p t hp
    unfold scores
    rw [if_neg fun q => hp ((kept_iff c p r t).mp q).1, Ideal.exp_bot]
  rw [ctx_at, num_at, den_at, context_at]
  simp only [weights_at, normz_at, expd_at, largest_at, hm]
  refine Eq.trans ?_ (softmax_eq (Kept (row c r)) a (row c r) (Or.inl rfl) fun j => v (ix4 b j h d))
  rw [sum_slots c (fun j => Ideal.exp (scores (Kept (row c r)) a j)) hz,
    sum_slots c (fun j => Ideal.exp (scores (Kept (row c r)) a j) * v (ix4 b j h d)) fun p t hp => by rw [hz p t hp, zero_mul]]
  simp only [hE, S.hv]

/-- One entry of the result. -/
theorem result_agrees (S : Shares m x wq k v wo) (R : Real3 m) (c : Dev nD) (b : Fin 2) (r : Fin 128) (n : Fin 512) :
    outBuf (F := Ideal) m c (ix3 b r n) = result (F := Ideal) x wq k v wo (ix3 b (row c r) n) := by
  refine (out_at m c b r n).trans (Eq.trans ?_ (result_at x wq k v wo b (row c r) n).symm)
  exact Finset.sum_congr (M := EReal) rfl fun j _ => congrArg₂ (· * ·) (context_agrees S R c b _ r _) (S.hwo c j n)

/-- Argument and result blocks, read at an index: the rows move, the other axes stay. -/
theorem rows_block {α : Type} (c : Dev nD) (w : (⟨3, ![2, 1024, 512]⟩ : Shape).Idx → α) (b : Fin 2) (r : Fin 128) (j : Fin 512) :
    Layout.block ⟨3, ![2, 128, 512]⟩ ⟨3, ![2, 1024, 512]⟩ 1 8 c w (by decide) (ix3 b r j) = w (ix3 b (row c r) j) :=
  congrArg w (funext fun a => Fin.ext (by match a with | 0 => rfl | 1 => rfl | 2 => rfl))

theorem heads_block {α : Type} (c : Dev nD) (w : (⟨4, ![2, 1024, 4, 64]⟩ : Shape).Idx → α) (b : Fin 2) (r : Fin 128) (h : Fin 4) (d : Fin 64) :
    Layout.block ⟨4, ![2, 128, 4, 64]⟩ ⟨4, ![2, 1024, 4, 64]⟩ 1 8 c w (by decide) (ix4 b r h d) = w (ix4 b (row c r) h d) :=
  congrArg w (funext fun a => Fin.ext (by match a with | 0 => rfl | 1 => rfl | 2 => rfl | 3 => rfl))

/-- What a device leaves is its rows of the whole result. -/
theorem block_agrees (S : Shares m x wq k v wo) (R : Real3 m) (c : Dev nD) :
    (finalA (F := Ideal) m c (5 : Fin 6) : S2x128x512.Idx → EReal)
      = Layout.block ⟨3, ![2, 128, 512]⟩ ⟨3, ![2, 1024, 512]⟩ 1 8 c (result (F := Ideal) x wq k v wo) (by decide) := by
  rw [final_at]
  funext i
  have hi : i = ix3 (i 0) (i 1) (i 2) := funext fun a => by match a with | 0 => rfl | 1 => rfl | 2 => rfl
  rw [hi]
  exact (result_agrees S R c (i 0) (i 1) (i 2)).trans (rows_block c _ (i 0) (i 1) (i 2)).symm

end Cert.Exchange
end
-- ==== Proof.lean ====
/-
# The certificate

The frames of the kernel, of its idealization and of the reference, the named mask, and the value: each device ends with
its rows of what the reference computes from the whole arrays.
-/
module

public import proofs.«01_k».proof.Defs
public import proofs.«01_k».proof.Proof.Finite
public import proofs.«01_k».proof.Proof.Frames
public import proofs.«01_k».proof.Proof.Value
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_finite_inputs_KernelIdeal
public import proofs.«01_k».proof.Proof.Gen.Pre_finite_inputs_ReferenceIdeal

@[expose] public section

noncomputable section

namespace Cert.Proof

open Idealize.ShloMosaic Idealize.SL.Sem

/-- The reference's run, read at its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal := IdealRules.named_const.statement Cert.KernelIdeal.κ "mask" .f32 0xCE6E6B28#32 ⊥ rfl

/-- The precondition, as reality of the entries. -/
theorem real_entries (m : (ℓ : Loc Cert.KernelIdeal.nD Cert.KernelIdeal.τ Cert.KernelIdeal.sig) → Buf (Elt Ideal) ℓ)
    (h : Cert.Pre_KernelIdeal_finite_inputs_KernelIdeal m) : Cert.Exchange.Real3 m where
  x c b r n := (Cert.Plain.finite_of_pre _ _ _ _ _ (h c)).1 (ix3 b r n)
  wq c n j := (Cert.Plain.finite_of_pre _ _ _ _ _ (h c)).2.1 (ix2 n j)
  k c b t h' d := (Cert.Plain.finite_of_pre _ _ _ _ _ (h c)).2.2 (ix4 b t h' d)

theorem algebraic : Cert.algebraic_KernelIdeal_ReferenceIdeal_pre_finite_inputs_KernelIdeal := by
  intro m g m' g' hp hs
  have S : Cert.Exchange.Shares m _ _ _ _ _ := {
    hx := fun c b r n => (congrFun (hs c).1 (ix3 b r n)).trans (Cert.Exchange.rows_block c _ b r n)
    hwq := fun c n j => congrFun (hs c).2.1 (ix2 n j)
    hk := fun c b t h d => (congrFun (hs c).2.2.1 (ix4 b t h d)).trans (Cert.Exchange.heads_block c _ b t h d)
    hv := fun c b t h d => (congrFun (hs c).2.2.2.1 (ix4 b t h d)).trans (Cert.Exchange.heads_block c _ b t h d)
    hwo := fun c j n => congrFun (hs c).2.2.2.2 (ix2 j n) }
  refine ⟨_, (θ_run Cert.KernelIdeal.defs _ _).mono (fun r h c => ⟨(h.1 c).1.trans (Cert.Exchange.block_agrees S (real_entries m hp) c), (h.1 c).2⟩)
    (Cert.Exchange.kernel_run m g), ?_⟩
  exact (θ_run Cert.ReferenceIdeal.defs _ _).mono (fun r h => ⟨(h 0).1.trans (Cert.Plain.run_result m' 0), (h 0).2⟩)
    (Cert.ReferenceIdeal.Value.run (F := Ideal) m' g')

theorem claim : Cert.Claim := ⟨Cert.Kernel.Gen.facts, Cert.KernelIdeal.Gen.facts, Cert.ReferenceIdeal.Gen.facts,
  Cert.Pre_finite_inputs_KernelIdeal.Gen.facts, Cert.Pre_finite_inputs_ReferenceIdeal.Gen.facts,
  Cert.Exchange.frame_bits, Cert.Exchange.frame_ideal, fun m g _ => Cert.Exchange.frame_ideal m g trivial,
  frame_reference, fun m g _ => frame_reference m g trivial, preserves, algebraic⟩

end Cert.Proof

end
